-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "step" .f32 0x3F7EB852#32 ((199 / 200 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S201 : Shape := ⟨1, ![201]⟩
abbrev S_ : Shape := ⟨0, ![]⟩
abbrev S416 : Shape := ⟨1, ![416]⟩
abbrev S16 : Shape := ⟨1, ![16]⟩
abbrev S208 : Shape := ⟨1, ![208]⟩
abbrev S1 : Shape := ⟨1, ![1]⟩

abbrev nBuf : Table → Nat
  | .hbm => 9
  | .local .scVector .vmem => 4
  | _ => 0

abbrev bufTy : (tb : Table) → Fin (nBuf tb) → BufTy
  | .hbm, ⟨0, _⟩ => ⟨S201, .f32⟩
  | .hbm, ⟨1, _⟩ => ⟨S_, .f32⟩
  | .hbm, ⟨2, _⟩ => ⟨S_, .f32⟩
  | .hbm, ⟨3, _⟩ => ⟨S416, .f32⟩
  | .hbm, ⟨4, _⟩ => ⟨S_, .i32⟩
  | .hbm, ⟨5, _⟩ => ⟨S416, .f32⟩
  | .hbm, ⟨6, _⟩ => ⟨S16, .f32⟩
  | .hbm, ⟨7, _⟩ => ⟨S208, .f32⟩
  | .hbm, ⟨8, _⟩ => ⟨S201, .f32⟩
  | .local .scVector .vmem, ⟨0, _⟩ => ⟨S416, .f32⟩
  | .local .scVector .vmem, ⟨1, _⟩ => ⟨S16, .f32⟩
  | .local .scVector .vmem, ⟨2, _⟩ => ⟨S208, .f32⟩
  | .local .scVector .vmem, ⟨3, _⟩ => ⟨S16, .f32⟩
  | _, _ => ⟨S201, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 1 := Scalar.cmpi .slt v1 c13_i32
  let v3 : BitVec 32 := Scalar.extui v2
  let c0_i32 : BitVec 32 := 0#32
  let v4 : BitVec 1 := Scalar.cmpi .ne v3 c0_i32
  v4

@[reducible] def k0_t1_loop : Scf.Loop 32 :=
  let c0_i32_42 : BitVec 32 := 0#32
  let c13_i32_43 : BitVec 32 := 13#32
  let v185 : BitVec 32 := Scalar.addi c0_i32_42 c13_i32_43
  let c1_i32 : BitVec 32 := 1#32
  ⟨c0_i32_42, v185, c1_i32⟩
def k0_off1 (k0_t1 : Fin k0_t1_loop.trips) : Fin 1 → Nat :=
  let c16_i32_46 : BitVec 32 := 16#32
  let c0_i32_42 : BitVec 32 := 0#32
  let c1_i32 : BitVec 32 := 1#32
  let arg9 : BitVec 32 := Scf.iv c0_i32_42 c1_i32 k0_t1
  let v190 : BitVec 32 := Scalar.muli c16_i32_46 arg9
  let v191 : Index := Scalar.indexCast v190
  ![v191.toNat]
def k0_off2 (i : grid0.Coords) (k0_t1 : Fin k0_t1_loop.trips) (c0_i32_48 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v183 : BitVec 32 := Scalar.muli v1 c16_i32
  let c16_i32_47 : BitVec 32 := 16#32
  let c0_i32_42 : BitVec 32 := 0#32
  let c1_i32 : BitVec 32 := 1#32
  let arg9 : BitVec 32 := Scf.iv c0_i32_42 c1_i32 k0_t1
  let v194 : BitVec 32 := Scalar.muli c16_i32_47 arg9
  let v195 : BitVec 32 := Scalar.addi v183 v194
  let v196 : BitVec 32 := Scalar.addi v195 c0_i32_48
  let v197 : Index := Scalar.indexCast v196
  ![v197.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v183 : BitVec 32 := Scalar.muli v1 c16_i32
  ![v183.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "step" => some ((199 / 200 : ℝ) : EReal)
  | _ => none
-- ==== ReferenceIdeal.lean ====
abbrev S201 : Shape := ⟨1, ![201]⟩
abbrev S_ : Shape := ⟨0, ![]⟩
abbrev S200 : Shape := ⟨1, ![200]⟩
abbrev S1 : Shape := ⟨1, ![1]⟩
abbrev S1x201 : Shape := ⟨2, ![1, 201]⟩
abbrev S201x1 : Shape := ⟨2, ![201, 1]⟩
abbrev S201x201 : Shape := ⟨2, ![201, 201]⟩
abbrev S201x201x1 : Shape := ⟨3, ![201, 201, 1]⟩

abbrev nBuf : Space → Nat
  | .hbm => 74
  | .vmem => 0
  | .smem => 0
  | _ => 0

abbrev bufTy : (tb : Table) → Fin (tcTables nBuf tb) → BufTy
  | .hbm, ⟨0, _⟩ => ⟨S201, .f32⟩
  | .hbm, ⟨1, _⟩ => ⟨S_, .f32⟩
  | .hbm, ⟨2, _⟩ => ⟨S_, .i32⟩
  | .hbm, ⟨3, _⟩ => ⟨S_, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S200, .f32⟩
  | .hbm, ⟨10, _⟩ => ⟨S_, .f32⟩
  | .hbm, ⟨11, _⟩ => ⟨S200, .f32⟩
  | .hbm, ⟨12, _⟩ => ⟨S200, .f32⟩
  | .hbm, ⟨13, _⟩ => ⟨S1, .f32⟩
  | .hbm, ⟨14, _⟩ => ⟨S_, .f32⟩
  | .hbm, ⟨15, _⟩ => ⟨S200, .f32⟩
  | .hbm, ⟨16, _⟩ => ⟨S200, .f32⟩
  | .hbm, ⟨17, _⟩ => ⟨S200, .f32⟩
  | .hbm, ⟨18, _⟩ => ⟨S200, .f32⟩
  | .hbm, ⟨19, _⟩ => ⟨S1, .f32⟩
  | .hbm, ⟨20, _⟩ => ⟨S200, .f32⟩
  | .hbm, ⟨21, _⟩ => ⟨S200, .f32⟩
  | .hbm, ⟨22, _⟩ => ⟨S200, .f32⟩
  | .hbm, ⟨23, _⟩ => ⟨S1, .f32⟩
  | .hbm, ⟨24, _⟩ => ⟨S201, .f32⟩
  | .hbm, ⟨25, _⟩ => ⟨S201, .f32⟩
  | .hbm, ⟨26, _⟩ => ⟨S201, .f32⟩
  | .hbm, ⟨27, _⟩ => ⟨S_, .f32⟩
  | .hbm, ⟨28, _⟩ => ⟨S_, .f32⟩
  | .hbm, ⟨29, _⟩ => ⟨S201, .f32⟩
  | .hbm, ⟨30, _⟩ => ⟨S201, .f32⟩
  | .hbm, ⟨31, _⟩ => ⟨S201, .i32⟩
  | .hbm, ⟨32, _⟩ => ⟨S201, .i32⟩
  | .hbm, ⟨33, _⟩ => ⟨S1x201, .i32⟩
  | .hbm, ⟨34, _⟩ => ⟨S201x1, .i32⟩
  | .hbm, ⟨35, _⟩ => ⟨S201x201, .i32⟩
  | .hbm, ⟨36, _⟩ => ⟨S201x201, .i32⟩
  | .hbm, ⟨37, _⟩ => ⟨S201x201, .i32⟩
  | .hbm, ⟨38, _⟩ => ⟨S_, .i32⟩
  | .hbm, ⟨39, _⟩ => ⟨S201x201, .i32⟩
  | .hbm, ⟨40, _⟩ => ⟨S201x201, .i32⟩
  | .hbm, ⟨41, _⟩ => ⟨S_, .i32⟩
  | .hbm, ⟨42, _⟩ => ⟨S201x201, .i32⟩
  | .hbm, ⟨43, _⟩ => ⟨S201x201, .i1⟩
  | .hbm, ⟨44, _⟩ => ⟨S_, .i32⟩
  | .hbm, ⟨45, _⟩ => ⟨S201x201, .i32⟩
  | .hbm, ⟨46, _⟩ => ⟨S201x201, .i1⟩
  | .hbm, ⟨47, _⟩ => ⟨S201x201, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S201x201, .i32⟩
  | .hbm, ⟨52, _⟩ => ⟨S201x201, .i32⟩
  | .hbm, ⟨53, _⟩ => ⟨S_, .i32⟩
  | .hbm, ⟨54, _⟩ => ⟨S201x201, .i32⟩
  | .hbm, ⟨55, _⟩ => ⟨S201x201, .i32⟩
  | .hbm, ⟨56, _⟩ => ⟨S_, .i32⟩
  | .hbm, ⟨57, _⟩ => ⟨S201x201, .i32⟩
  | .hbm, ⟨58, _⟩ => ⟨S201x201, .i1⟩
  | .hbm, ⟨59, _⟩ => ⟨S_, .i32⟩
  | .hbm, ⟨60, _⟩ => ⟨S201x201, .i32⟩
  | .hbm, ⟨61, _⟩ => ⟨S201x201, .i32⟩
  | .hbm, ⟨62, _⟩ => ⟨S201x201, .i32⟩
  | .hbm, ⟨63, _⟩ => ⟨S201x201x1, .i32⟩
  | .hbm, ⟨64, _⟩ => ⟨S201x201, .f32⟩
  | .hbm, ⟨65, _⟩ => ⟨S_, .f32⟩
  | .hbm, ⟨66, _⟩ => ⟨S_, .f32⟩
  | .hbm, ⟨67, _⟩ => ⟨S201x201, .f32⟩
  | .hbm, ⟨68, _⟩ => ⟨S201x201, .f32⟩
  | .hbm, ⟨69, _⟩ => ⟨S1x201, .f32⟩
  | .hbm, ⟨70, _⟩ => ⟨S201x201, .f32⟩
  | .hbm, ⟨71, _⟩ => ⟨S201x201, .f32⟩
  | .hbm, ⟨72, _⟩ => ⟨S_, .f32⟩
  | .hbm, ⟨73, _⟩ => ⟨S201, .f32⟩
  | _, _ => ⟨S201, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_1 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_c_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v20 : Ref sig .tc := ⟨.hbm, 55, rfl⟩
abbrev main_c_6 : Ref sig .tc := ⟨.hbm, 56, rfl⟩
abbrev main_v21 : Ref sig .tc := ⟨.hbm, 57, rfl⟩
abbrev main_v22 : Ref sig .tc := ⟨.hbm, 58, rfl⟩
abbrev main_c_7 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_8 : Ref sig .tc := ⟨.hbm, 65, rfl⟩
abbrev main_call2_v0 : Ref sig .tc := ⟨.hbm, 66, rfl⟩
abbrev main_call2_v1 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_9 : Ref sig .tc := ⟨.hbm, 72, rfl⟩
abbrev main_v32 : Ref sig .tc := ⟨.hbm, 73, rfl⟩

abbrev nD : Nat := 1
abbrev τ : Topo := Topo.v7x

variable {F : FTy → Type} [FloatOps F]
-- ==== Proof.Tile.lean ====
/-
  The tile task of the kernel whose constants are named, with the values it leaves.

  Thirteen of the thirty-two vector subcores have work. The one numbered `w` (twice its subcore plus its SparseCore) copies
  the padded signal and the scale vector into its own memory, fills a table of 208 parabola weights, and folds
  `max (pad (16 w + k + lane) + weight k)` over the 208 values of `k` in thirteen trips of sixteen, then copies its sixteen
  lanes out to block `w`. `hTab` is the table and `accN` the fold; the body is run once at a symbolic coordinate, and what
  it leaves in its block is `outG` of the two arrays it was handed.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.ShareLeaves
public import Idealize.ShloMosaic.Lib.VecWindow
public import Idealize.ShloMosaic.Lib.WritesUnit
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.DilateIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The launch's configuration -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl

/-- The launch's semaphores are apart from one another and outlive the tasks, and no buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_v1
abbrev bLoc (d : Dev nD) : Loc nD τ sig := (SparseCore.T d).loc main_v2
abbrev oLoc (d : Dev nD) : Loc nD τ sig := (SparseCore.T d).loc main_v3

local notation "aV" => (Memref.whole Cert.KernelIdeal.main_v1_scv : Memref Cert.KernelIdeal.sig Kind.scVector Space.hbm Cert.KernelIdeal.S416 EltTy.f32)
local notation "bV" => (Memref.whole Cert.KernelIdeal.main_v2_scv : Memref Cert.KernelIdeal.sig Kind.scVector Space.hbm Cert.KernelIdeal.S16 EltTy.f32)
local notation "oV" => (Memref.whole Cert.KernelIdeal.main_v3_scv : Memref Cert.KernelIdeal.sig Kind.scVector Space.hbm Cert.KernelIdeal.S208 EltTy.f32)
local notation "pV" => (Memref.whole Cert.KernelIdeal.cc0_scratch0 : Memref Cert.KernelIdeal.sig Kind.scVector Space.vmem Cert.KernelIdeal.S416 EltTy.f32)
local notation "sV" => (Memref.whole Cert.KernelIdeal.cc0_scratch1 : Memref Cert.KernelIdeal.sig Kind.scVector Space.vmem Cert.KernelIdeal.S16 EltTy.f32)
local notation "hV" => (Memref.whole Cert.KernelIdeal.cc0_scratch2 : Memref Cert.KernelIdeal.sig Kind.scVector Space.vmem Cert.KernelIdeal.S208 EltTy.f32)
local notation "rV" => (Memref.whole Cert.KernelIdeal.cc0_scratch3 : Memref Cert.KernelIdeal.sig Kind.scVector Space.vmem Cert.KernelIdeal.S16 EltTy.f32)

/-- Block `w` of the output: the sixteen elements from `16 w` on, none when `w` is 13 or more. -/
def oSet (w : ℕ) : Finset S208.Idx := Finset.univ.filter fun y => (y 0).val / 16 = w

variable [FloatOps F] [Named F]

/-! ## The values -/

/-- The grid spacing of the parabola, as the kernel's text has it. -/
def stepC : F .f32 := Named.named κ "step" 0x3F7EB852#32

/-- The sixteen numbers `offset + lane` as floats. -/
def laneF (b : BitVec 32) : FVec F S16 .f32 :=
  addf (sitofp .f32 (iota .scVector S16 32 [0] iota_S16_d0_w32_scVector)) (broadcast S16 (Scalar.ofBits .f32 b))

/-- Sixteen grid points: `(offset + lane) * step - 99`. -/
def zF (b : BitVec 32) : FVec F S16 .f32 :=
  subf (mulf (laneF b) (broadcast S16 stepC)) (broadcast S16 (Scalar.ofBits .f32 0x42C60000#32))

/-- Sixteen weights: the grid points squared, times minus a quarter over the scale. -/
def hF (b : BitVec 32) (s : Vec F S16 .f32) : FVec F S16 .f32 := mulf (mulf (zF b) (zF b)) (k0_pay8 s)

/-- The float words of the chunk offsets 0, 16, …, 192. -/
def chunkBits : ℕ → BitVec 32
  | 0 => 0x00000000#32 | 1 => 0x41800000#32 | 2 => 0x42000000#32 | 3 => 0x42400000#32 | 4 => 0x42800000#32
  | 5 => 0x42A00000#32 | 6 => 0x42C00000#32 | 7 => 0x42E00000#32 | 8 => 0x43000000#32 | 9 => 0x43100000#32
  | 10 => 0x43200000#32 | 11 => 0x43300000#32 | _ => 0x43400000#32

/-- Chunk `c` of the weights; the last keeps nine lanes and has minus infinity in the others. -/
def hChunk (s : Vec F S16 .f32) (c : ℕ) : FVec F S16 .f32 :=
  if c = 12 then
    select (cmpi .slt (iota .scVector S16 32 [0] iota_S16_d0_w32_scVector) (broadcast S16 9#32)) (hF (chunkBits 12) s)
      (broadcast S16 (Scalar.ofBits .f32 0xFF800000#32))
  else hF (chunkBits c) s

/-- A lane from a number, its remainder by sixteen. -/
def lane (n : ℕ) : S16.Idx := ix1 (n := 16) ⟨n % 16, Nat.mod_lt _ (by decide)⟩

/-- The whole table of weights. -/
def hTab (s : Vec F S16 .f32) : S208.Idx → F .f32 := fun y => hChunk s ((y 0).val / 16) (lane (y 0).val)

/-- The padded signal and the table at a number. -/
def padAt (p : S416.Idx → F .f32) (n : ℕ) : F .f32 := p (ix1 (n := 416) ⟨n % 416, Nat.mod_lt _ (by decide)⟩)
def tabAt (h : S208.Idx → F .f32) (n : ℕ) : F .f32 := h (ix1 (n := 208) ⟨n % 208, Nat.mod_lt _ (by decide)⟩)

/-- The running maximum after `n` terms, sixteen lanes at once, the lanes' signal starting at `off`. -/
def accN (p : S416.Idx → F .f32) (h : S208.Idx → F .f32) (off : ℕ) : ℕ → FVec F S16 .f32
  | 0 => fun _ => Scalar.ofBits .f32 0xFF800000#32
  | n + 1 => fun l => FloatOps.maximumf (accN p h off n l) (FloatOps.addf (padAt p (off + n + (l 0).val)) (tabAt h n))

/-- What the thirteen tasks leave in the output. -/
def outG (p : S416.Idx → F .f32) (s : Vec F S16 .f32) : S208.Idx → F .f32 :=
  fun y => accN p (hTab s) (16 * ((y 0).val / 16)) 208 (lane (y 0).val)

/-! ## What a task is handed and hands back -/

variable (A : (d : Dev nD) → Buf (Elt F) (aLoc d)) (B : (d : Dev nD) → Buf (Elt F) (bLoc d)) (C : (d : Dev nD) → Buf (Elt F) (oLoc d))

/-- The task's share of an array that all tasks read. -/
abbrev shareOf (w : Fin 32) : PosShare TreeShare := ShareLeaves.leaf 5 fullShare w

abbrev aPts (d : Dev nD) (w : Fin 32) : sProp 𝕄 := aLoc d ↦{shareOf w} A d
abbrev bPts (d : Dev nD) (w : Fin 32) : sProp 𝕄 := bLoc d ↦{shareOf w} B d
abbrev oPts (d : Dev nD) (w : Fin 32) (f : Buf (Elt F) (oLoc d)) : sProp 𝕄 := oLoc d ↦[oSet w.val]{fullShare} f

/-- Handed over: a share of the padded signal, a share of the scale vector, the task's own block of the output. -/
abbrev tileIn (d : Dev nD) (w : Fin 32) : sProp 𝕄 := iprop(aPts A d w ∗ bPts B d w ∗ oPts d w (C d))
/-- Handed back: the same, the block at the values computed. -/
abbrev tileOut (d : Dev nD) (w : Fin 32) : sProp 𝕄 := iprop(aPts A d w ∗ bPts B d w ∗ oPts d w (outG (F := F) (A d) (B d)))

/-- The number of the task on subcore `i` of SparseCore `c`. -/
def wid (c : Fin 2) (i : Fin 16) : Fin 32 := ⟨2 * i.val + c.val, by omega⟩

/-! ## The task's own memory -/

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
/-- The task's number at a coordinate. -/
abbrev wL (L : grid0.Coords) : Fin 32 := wid (Fin.cast rfl (L 0)) (Fin.cast rfl (L 1))

abbrev cell0 (d : Dev nD) (L : grid0.Coords) : GSem nD τ sig := (thr d L, .dma cc0_scoped0.sem)
abbrev cell1 (d : Dev nD) (L : grid0.Coords) : GSem nD τ sig := (thr d L, .dma cc0_scoped1.sem)
abbrev cell2 (d : Dev nD) (L : grid0.Coords) : GSem nD τ sig := (thr d L, .dma cc0_scoped2.sem)

omit [FloatOps F] [Named F] in
/-- The subcore's counters at zero: its three transfer counters and the rest. -/
theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

/-- A scratch buffer of the subcore as a device reference. -/
abbrev scr (L : grid0.Coords) (b : Ref sig .scVector) : DevRef τ sig := (Proc.scVector (cV L) (jV L)).devRef b

omit [FloatOps F] [Named F] in
/-- The subcore's buffers: the four scratch buffers at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (scr L cc0_scratch0)).erase (scr L cc0_scratch1)).erase
              (scr L cc0_scratch2)).erase (scr L cc0_scratch3))
              fun b => iprop(∃ f, ((d, b) : Loc nD τ sig) ↦{fullShare} f)) := by
  have ne : ∀ b b' : Ref sig .scVector, b ≠ b' → scr L b ≠ scr L b' := fun b b' h e => h (Proc.devRef_injective _ e)
  unfold SparseCore.Cfg.ownBufs
  refine (SparseCore.bigSep_erase' (SparseCore.Cfg.mem_ownRefs_of_owner (p := Proc.scVector (cV L) (jV L))
    (b := scr L cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := scr L cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := scr L cc0_scratch2) rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide),
        SparseCore.Cfg.mem_ownRefs_of_owner (p := Proc.scVector (cV L) (jV L)) (b := scr L cc0_scratch3) rfl⟩⟩⟩)]

/-! ## The block of the output a working task addresses -/

/-- A task works exactly when its number is below 13. -/
theorem cond_iff : k0_cond1 L = 1#1 ↔ (wL L).val < 13 := by
  have : ∀ L : grid0.Coords, k0_cond1 L = 1#1 ↔ 2 * (L 1).val + (L 0).val < 13 := by decide +kernel
  exact this L

/-- The output's slice as the task writes it. -/
abbrev oBlk (L : grid0.Coords) (h1 : k0_cond1 L = 1#1) : Memref sig .scVector .hbm S16 .f32 :=
  (oV).slice (Rect.unit (s := S208) (k0_off3 L) S16.size (k0_off3_inb L h1)) (fun _ => rfl)

/-- It covers exactly the elements of the task's block. -/
theorem set_oBlk (h1 : k0_cond1 L = 1#1) : (oBlk L h1).view.set = oSet (wL L).val := by
  have e : (oBlk L h1).view.set = (Rect.unit (s := S208) (k0_off3 L) S16.size (k0_off3_inb L h1)).set := by
    show ((View.whole (main_v3_scv : Ref sig .scVector)).slice _).set = _
    rw [View.set_slice]; exact Finset.map_refl
  rw [e]
  ext y
  rw [Rect.mem_set_unit]
  have hw : (wL L).val = 2 * (L 1).val + (L 0).val := rfl
  simp only [oSet, Finset.mem_filter, Finset.mem_univ, true_and, k0_off3_eq, hw]
  constructor
  · intro h; have := h 0; simp at this; omega
  · intro h a
    match a with
    | ⟨0, _⟩ => simp; omega

/-- What the task's copy out leaves at an element of its block is its lane of the sixteen written. -/
theorem blk_writes (h1 : k0_cond1 L = 1#1) (f : S208.Idx → F .f32) (w : S16.Idx → F .f32) (y : S208.Idx) (hy : y ∈ oSet (wL L).val) :
    (oBlk L h1).view.writes (Elt F) f [⟨Rect.whole S16, w⟩] y = w (lane (y 0).val) := by
  rw [← set_oBlk L h1] at hy
  obtain ⟨x, -, rfl⟩ := Finset.mem_map.mp hy
  have hx : (x 0).val < 16 := (x 0).isLt
  have e : (((oBlk L h1).view.emb x : S208.Idx) 0).val = 32 * (L 1).val + 16 * (L 0).val + (x 0).val := by
    show (k0_off3 L) 0 + 1 * (x 0).val = _
    rw [k0_off3_eq, Nat.one_mul]; rfl
  have ex : lane (((oBlk L h1).view.emb x : S208.Idx) 0).val = x := by
    rw [e, eq_ix1 x]; refine congrArg ix1 (Fin.ext ?_)
    show (32 * (L 1).val + 16 * (L 0).val + (x 0).val) % 16 = (x 0).val; omega
  rw [ex]
  have ew : (Rect.whole S16).emb x = x := funext fun a => Fin.ext <| by
    match a with
    | ⟨0, _⟩ => show 0 + 1 * (x 0).val = (x 0).val; omega
  refine Eq.trans ?_ (View.read_writes_cons_emb (Val := Elt F) (oBlk L h1).view f (Rect.whole S16) w [] x)
  rw [ew]
  rfl

/-! ## What the loads read and what a trip computes -/

omit [FloatOps F] [Named F] in
/-- Sixteen elements of the signal's copy, loaded from `n` on. -/
theorem readPad (p : S416.Idx → F .f32) {off : Fin 1 → ℕ} (inb : ∀ a, off a + S16.size a ≤ S416.size a) (n : ℕ) (hoff : off = ![n]) (l : S16.Idx) :
    (pV).view.readAt (Elt F) (Rect.unit (s := S416) off S16.size inb).toLoadRect p l = padAt p (n + (l 0).val) := by
  subst hoff
  have hn : n + 16 ≤ 416 := inb 0
  have hl : (l 0).val < 16 := (l 0).isLt
  refine congrArg p (funext fun a => Fin.ext ?_)
  match a with
  | ⟨0, _⟩ =>
    show n + 1 * (l 0).val = (n + (l 0).val) % 416
    rw [Nat.mod_eq_of_lt (by omega), Nat.one_mul]

omit [FloatOps F] [Named F] in
/-- Sixteen weights, loaded from `n` on. -/
theorem readTab (h : S208.Idx → F .f32) {off : Fin 1 → ℕ} (inb : ∀ a, off a + S16.size a ≤ S208.size a) (n : ℕ) (hoff : off = ![n]) (l : S16.Idx) :
    (hV).view.readAt (Elt F) (Rect.unit (s := S208) off S16.size inb).toLoadRect h l = tabAt h (n + (l 0).val) := by
  subst hoff
  have hn : n + 16 ≤ 208 := inb 0
  have hl : (l 0).val < 16 := (l 0).isLt
  refine congrArg h (funext fun a => Fin.ext ?_)
  match a with
  | ⟨0, _⟩ =>
    show n + 1 * (l 0).val = (n + (l 0).val) % 208
    rw [Nat.mod_eq_of_lt (by omega), Nat.one_mul]

/-- One trip adds sixteen terms to the fold. -/
theorem trip_val (p : S416.Idx → F .f32) (h : S208.Idx → F .f32) (off n : ℕ) (H : Vec F S16 .f32) (P : Fin 16 → Vec F S16 .f32)
    (hH : ∀ l : S16.Idx, H l = tabAt h (n + (l 0).val)) (hP : ∀ (r : Fin 16) (l : S16.Idx), P r l = padAt p (off + (n + r.val) + (l 0).val)) :
    k0_pay3 (k0_pay5 H)
        (k0_pay7 (k0_pay5 H) (k0_pay6 (accN p h off n) H (P 0) (P 1) (P 2) (P 3) (P 4)) (P 5) (P 6) (P 7) (P 8) (P 9) (P 10))
        (P 11) (P 12) (P 13) (P 14) (P 15)
      = accN p h off (n + 16) := by
  have e : ∀ x : Vec F S16 .f32, shapeCast S16 x shapeCasts_S16_S16 = x := fun x => shapeCast_self x _
  have u5 : k0_pay5 H = H := e H
  rw [u5]
  unfold k0_pay3 k0_pay7 k0_pay6
  rw [u5]
  simp only [e]
  obtain rfl : H = fun l => tabAt h (n + (l 0).val) := funext hH
  obtain rfl : P = fun r l => padAt p (off + (n + r.val) + (l 0).val) := funext fun r => funext fun l => hP r l
  rfl

/-- Every chunk of the table is what its store wrote. -/
theorem tab_chunk (s : Vec F S16 .f32) (c : ℕ) (hc : c < 13) (inb : ∀ a, (![16 * c] : Fin 1 → ℕ) a + S16.size a ≤ S208.size a) (x : S16.Idx) :
    hChunk s c x = hTab s ((Rect.unit (s := S208) ![16 * c] S16.size inb).emb x) := by
  have hl : (x 0).val < 16 := (x 0).isLt
  have e : (((Rect.unit (s := S208) ![16 * c] S16.size inb).emb x) 0).val = 16 * c + (x 0).val := by
    show 16 * c + 1 * (x 0).val = _; rw [Nat.one_mul]
  have ex : lane (16 * c + (x 0).val) = x := by
    rw [eq_ix1 x]; refine congrArg ix1 (Fin.ext ?_)
    show (16 * c + (x 0).val) % 16 = (x 0).val; omega
  unfold hTab
  rw [e, ex, show (16 * c + (x 0).val) / 16 = c by omega]

omit [FloatOps F] [Named F] in
/-- The place `y` of the table lies in chunk `y / 16`. -/
theorem mem_chunk (c : ℕ) (inb : ∀ a, (![16 * c] : Fin 1 → ℕ) a + S16.size a ≤ S208.size a) (y : S208.Idx) (h : (y 0).val / 16 = c) :
    y ∈ (Rect.unit (s := S208) ![16 * c] S16.size inb).set := by
  rw [Rect.mem_set_unit]
  intro a
  match a with
  | ⟨0, _⟩ =>
    show 16 * c ≤ (y 0).val ∧ (y 0).val < 16 * c + 16
    omega

/-- Two vectors, one of them through a shape cast to its own shape, are the same when the vectors are. -/
theorem cast_eq {x y : Vec F S16 .f32} (h : x = y) : shapeCast S16 x shapeCasts_S16_S16 = y := (shapeCast_self x _).trans h

/-! What each of the thirteen stores writes is its chunk of the weights. -/

theorem e0 (s : Vec F S16 .f32) : k0_pay9 s = hChunk s 0 := cast_eq rfl
theorem e1 (s : Vec F S16 .f32) : k0_pay10 s = hChunk s 1 := cast_eq rfl
theorem e2 (s : Vec F S16 .f32) : k0_pay12 (k0_pay11 s) = hChunk s 2 := cast_eq rfl
theorem e3 (s : Vec F S16 .f32) : k0_pay13 (k0_pay8 s) = hChunk s 3 := cast_eq rfl
theorem e4 (s : Vec F S16 .f32) : k0_pay14 (k0_pay8 s) = hChunk s 4 := cast_eq rfl
theorem e5 (s : Vec F S16 .f32) : k0_pay15 (k0_pay8 s) = hChunk s 5 := cast_eq rfl
theorem e6 (s : Vec F S16 .f32) : k0_pay17 (k0_pay8 s) k0_pay16 = hChunk s 6 := cast_eq rfl
theorem e7 (s : Vec F S16 .f32) : k0_pay18 (k0_pay8 s) = hChunk s 7 := cast_eq rfl
theorem e8 (s : Vec F S16 .f32) : k0_pay19 (k0_pay8 s) = hChunk s 8 := cast_eq rfl
theorem e9 (s : Vec F S16 .f32) : k0_pay21 (k0_pay8 s) k0_pay20 = hChunk s 9 := cast_eq rfl
theorem e10 (s : Vec F S16 .f32) : k0_pay22 (k0_pay8 s) = hChunk s 10 := cast_eq rfl
theorem e11 (s : Vec F S16 .f32) : k0_pay23 (k0_pay8 s) = hChunk s 11 := cast_eq rfl
theorem e12 (s : Vec F S16 .f32) : k0_pay1 (k0_pay24 (k0_pay8 s)) (iota .scVector S16 32 [0] iota_S16_d0_w32_scVector) = hChunk s 12 := cast_eq rfl

/-- Stores into the table that agree with `G` and reach every place leave `G`. -/
theorem table_writes (G : S208.Idx → F .f32) (Ls : List ((r : Rect S208) × (r.shape.Idx → F .f32)))
    (hG : ∀ q ∈ Ls, ∀ x, q.2 x = G (q.1.emb x)) (hc : ∀ y, ∃ q ∈ Ls, y ∈ q.1.set) :
    (hV).view.writes (Elt F) (hV).view.junk Ls = G :=
  funext fun y => (congrFun (View.read_whole (Val := Elt F) _ _).symm y).trans
    (View.read_writes_apply_of_pieces (Val := Elt F) (hV).view (hV).view.junk G Ls hG y (hc y))

/-! ## The body -/

/-- Before trip `n` the carried lanes are the fold's first `16 n` terms; the signal and the table are in the task's memory. -/
def inv (p : S416.Idx → F .f32) (h : S208.Idx → F .f32) (n : ℕ) (acc : FVec F S16 .f32) : sProp 𝕄 :=
  iprop(⌜acc = accN p h (16 * (wL L).val) (16 * n)⌝
    ∗ ((pV).view.loc (thr d L) ↦{fullShare} (p : Buf (Elt F) ((pV).view.loc (thr d L))))
    ∗ ((hV).view.loc (thr d L) ↦{fullShare} (h : Buf (Elt F) ((hV).view.loc (thr d L)))))

set_option maxHeartbeats 4000000 in
/-- A working task: two fetches, the table, the thirteen trips, the block written out. -/
theorem body_on (h1 : k0_cond1 L = 1#1) (O : CellTallies nD τ sig (HIx 1)) (W : Waits sig (HIx 1)) (hO : ∀ g, O g none = 0) :
    iprop(levAts (K (F := F)).L (K (F := F)).lev ∗ emp ∗ tileIn A B C d (wL L)
        ∗ scopedBufs (thr d L) ∗ scopedSems0 (thr d L) ∗ owes (thr d L) O W)
      ⊢ wp frame (wpE (defs₀ (F := F)) Variants.none (thr d L) none) Set.univ
          (cc0__dilate_body L aV (Memref.isWhole_whole _) bV (Memref.isWhole_whole _) oV (Memref.isWhole_whole _)
            pV (Memref.isWhole_whole _) sV (Memref.isWhole_whole _) hV (Memref.isWhole_whole _) rV (Memref.isWhole_whole _)
            cc0_scoped0 cc0_scoped1 cc0_scoped2)
          fun _ => iprop(tileOut A B d (wL L) ∗ scopedBufs (thr d L) ∗ scopedSems0 (thr d L)
            ∗ ∃ W', ⌜∀ p ∈ W', p ∈ W ∨ p.2 = none⌝ ∗ owes (thr d L) O W') := by
  have k0_h1 := h1
  simp only [cc0__dilate_body_eq_skeleton]; unfold cc0__dilate_body_skel
  simp only [k0_part3_eq_skeleton, k0_part4_eq_skeleton, k0_part5_eq_skeleton, k0_part6_eq_skeleton]
  unfold k0_part3_skel k0_part4_skel k0_part5_skel k0_part6_skel
  rw [(K (F := F)).scopedBufs_V facts d (cV L) (jV L), SparseCore.Cfg.scopedSems0_V (Val := Elt F) d (cV L) (jV L), ownSems0_V, ownBufs_V]
  iintro ⟨#Hlv, -, ⟨Ha, Hb, Ho⟩, ⟨⟨%fp, Hp⟩, ⟨%fs, Hs⟩, ⟨%fh, Hh⟩, ⟨%fr, Hr⟩, Hbufs⟩, ⟨Hc0, Hc1, Hc2, Hsems⟩, HO⟩
  ihave Hmw := (show levAts (K (F := F)).L (K (F := F)).lev ⊢ Transfers.MayWaits (thr d L) (default : HIx 1) O from
    (K (F := F)).mayWaits_none (thr := thr d L) hO) $$ Hlv
  ihave Ha' := (Entails.of_eq (show (aPts A d (wL L) : sProp 𝕄) = ((aV).view.loc (thr d L) ↦{shareOf (wL L)} A d) from rfl)) $$ Ha
  ihave Hb' := (Entails.of_eq (show (bPts B d (wL L) : sProp 𝕄) = ((bV).view.loc (thr d L) ↦{shareOf (wL L)} B d) from rfl)) $$ Hb
  ihave Ho' := (Entails.of_eq (show (oPts d (wL L) (C d) : sProp 𝕄) = ((oBlk L h1).view.loc (thr d L) ↦[(oBlk L h1).view.set]{fullShare} C d) by
    rw [set_oBlk])) $$ Ho
  ihave Hp' := (Entails.of_eq (show ((thr d L).loc cc0_scratch0 ↦{fullShare} fp : sProp 𝕄) = ((pV).view.loc (thr d L) ↦{fullShare} fp) from rfl)) $$ Hp
  ihave Hs' := (Entails.of_eq (show ((thr d L).loc cc0_scratch1 ↦{fullShare} fs : sProp 𝕄) = ((sV).view.loc (thr d L) ↦{fullShare} fs) from rfl)) $$ Hs
  ihave Hh' := (Entails.of_eq (show ((thr d L).loc cc0_scratch2 ↦{fullShare} fh : sProp 𝕄) = ((hV).view.loc (thr d L) ↦{fullShare} fh) from rfl)) $$ Hh
  ihave Hr' := (Entails.of_eq (show ((thr d L).loc cc0_scratch3 ↦{fullShare} fr : sProp 𝕄) = ((rV).view.loc (thr d L) ↦{fullShare} fr) from rfl)) $$ Hr
  sl_exec
  have hp : View.write (Elt F) (pV).view fp (body_on.sl.dma0 A d) Finset.univ = (A d : S416.Idx → F .f32) := by
    unfold body_on.sl.dma0
    rw [View.write_whole_univ]
    rfl
  have hs : View.readAt (Elt F) (sV).view (Rect.unit ![0] S16.size inb_S16_S16_0).toLoadRect
      (View.write (Elt F) (sV).view fs (ReadAs.same.apply (View.read (Elt F) (bV).view (B d))) Finset.univ) = (B d : S16.Idx → F .f32) := by
    rw [View.write_whole_univ]
    funext l
    refine congrArg (B d : S16.Idx → F .f32) (funext fun a => Fin.ext ?_)
    match a with
    | ⟨0, _⟩ => show 0 + 1 * (l 0).val = (l 0).val; omega
  have hh : (hV).view.writes (Elt F) (hV).view.junk (body_on.sl.Hh'_13 B d L fs) = hTab (F := F) (B d) := by
    sl_unfold_run_names
    rw [hs]
    refine table_writes _ _ ?_ fun y => ?_
    · intro q hq x
      simp only [List.mem_cons, List.not_mem_nil, or_false] at hq
      rcases hq with rfl | rfl | rfl | rfl | rfl | rfl | rfl | rfl | rfl | rfl | rfl | rfl | rfl
      · exact (congrFun (e12 (B d)) x).trans (tab_chunk (B d) 12 (by decide) inb_S208_S16_192 x)
      · exact (congrFun (e11 (B d)) x).trans (tab_chunk (B d) 11 (by decide) inb_S208_S16_176 x)
      · exact (congrFun (e10 (B d)) x).trans (tab_chunk (B d) 10 (by decide) inb_S208_S16_160 x)
      · exact (congrFun (e9 (B d)) x).trans (tab_chunk (B d) 9 (by decide) inb_S208_S16_144 x)
      · exact (congrFun (e8 (B d)) x).trans (tab_chunk (B d) 8 (by decide) inb_S208_S16_128 x)
      · exact (congrFun (e7 (B d)) x).trans (tab_chunk (B d) 7 (by decide) inb_S208_S16_112 x)
      · exact (congrFun (e6 (B d)) x).trans (tab_chunk (B d) 6 (by decide) inb_S208_S16_96 x)
      · exact (congrFun (e5 (B d)) x).trans (tab_chunk (B d) 5 (by decide) inb_S208_S16_80 x)
      · exact (congrFun (e4 (B d)) x).trans (tab_chunk (B d) 4 (by decide) inb_S208_S16_64 x)
      · exact (congrFun (e3 (B d)) x).trans (tab_chunk (B d) 3 (by decide) inb_S208_S16_48 x)
      · exact (congrFun (e2 (B d)) x).trans (tab_chunk (B d) 2 (by decide) inb_S208_S16_32 x)
      · exact (congrFun (e1 (B d)) x).trans (tab_chunk (B d) 1 (by decide) inb_S208_S16_16 x)
      · exact (congrFun (e0 (B d)) x).trans (tab_chunk (B d) 0 (by decide) inb_S208_S16_0 x)
    · have hy : ((y : S208.Idx) 0).val < 208 := (y 0).isLt
      have hc : ((y : S208.Idx) 0).val / 16 < 13 := by omega
      generalize hn : ((y : S208.Idx) 0).val / 16 = n at hc
      have hm : ∀ inb, y ∈ (Rect.unit (s := S208) ![16 * n] S16.size inb).set := fun inb => mem_chunk n inb y hn
      simp only [List.exists_mem_cons_iff]
      interval_cases n
      all_goals simp [hm]
  ihave Hp2 := (Entails.of_eq (congrArg (fun f => ((pV).view.loc (thr d L) ↦{fullShare} f : sProp 𝕄)) hp)) $$ Hp'
  ihave Hh2 := (Entails.of_eq (congrArg (fun f => ((hV).view.loc (thr d L) ↦{fullShare} f : sProp 𝕄)) hh)) $$ Hh'
  sl_for (inv d L (A d) (hTab (F := F) (B d))) $$ [Hp2 Hh2]
  case region =>
    intro k acc
    unfold inv body_on.sl.prog.body_1 k0_t1_body
    rw [k0_part1_eq_skeleton, k0_part2_eq_skeleton]
    unfold k0_part1_skel k0_part2_skel
    iintro ⟨%hacc, Hp, Hh⟩
    sl_exec
    sl_step
    isplitr
    · ipureintro
      have hw : (wL L).val = 2 * (L 1).val + (L 0).val := rfl
      subst hacc
      exact trip_val (A d) (hTab (F := F) (B d)) (16 * (wL L).val) (16 * k.val) _
        (fun r => (pV).view.readAt (Elt F) (Rect.unit (s := S416) (k0_off2 L k (BitVec.ofNat 32 r.val)) S16.size (k0_off2_inb L k h1 r)).toLoadRect (A d))
        (fun l => readTab _ _ _ (k0_off1_eq k) l)
        (fun r l => readPad _ _ _ ((k0_off2_eq L k r).trans (congrArg (fun n => ![n]) (by omega))) l)
    isplitl [Hp]; · iexact Hp
    iexact Hh
  · unfold inv
    isplitr
    · ipureintro; rfl
    isplitl [Hp2]; · iexact Hp2
    iexact Hh2
  iintro %acc HI
  unfold inv
  icases HI with ⟨%hacc, Hp, Hh⟩
  sl_exec
  have hr : body_on.sl.dma2 d L fr acc = (acc : S16.Idx → F .f32) := by
    sl_unfold_run_names
    funext l
    refine (View.read_writes_cons_unit_of_mem (Val := Elt F) (rV).view fr inb_S16_S16_0 (k0_pay4 acc) [] l l rfl fun a => ?_).trans
      (congrFun (shapeCast_self (acc : S16.Idx → F .f32) _) l)
    match a with
    | ⟨0, _⟩ => show (l 0).val = 0 + (l 0).val; omega
  have ho : ((oBlk L h1).view.loc (thr d L) ↦[(oBlk L h1).view.set]{fullShare}
        (oBlk L h1).view.writes (Elt F) (C d) [⟨Rect.whole S16, body_on.sl.dma2 d L fr acc⟩] : sProp 𝕄)
      = oPts d (wL L) (outG (A d) (B d)) := by
    rw [hr, set_oBlk]
    refine pointsTo_congr fun y hy => ?_
    rw [blk_writes L h1 (C d) acc y hy, hacc]
    have hy' : ((y : S208.Idx) 0).val / 16 = (wL L).val := (Finset.mem_filter.mp hy).2
    show accN (A d) (hTab (F := F) (B d)) (16 * (wL L).val) 208 _ = accN (A d) (hTab (F := F) (B d)) (16 * (((y : S208.Idx) 0).val / 16)) 208 _
    rw [hy']
  ihave Ho2 := (Entails.of_eq ho) $$ Ho'
  sl_step
  isplitl [Ha' Hb' Ho2]
  · isplitl [Ha']; · iexact Ha'
    isplitl [Hb']; · iexact Hb'
    iexact Ho2
  isplitl [Hp Hs' Hh Hr' Hbufs]
  · isplitl [Hp]; · iexists _; iexact Hp
    isplitl [Hs']; · iexists _; iexact Hs'
    isplitl [Hh]; · iexists _; iexact Hh
    isplitl [Hr']; · iexists _; iexact Hr'
    iexact Hbufs
  isplitl [Hc0 Hc1 Hc2 Hsems]
  · isplitl [Hc0]; · iexact Hc0
    isplitl [Hc1]; · iexact Hc1
    isplitl [Hc2]; · iexact Hc2
    iexact Hsems
  iexists _
  isplitr
  swap
  · iexact HO
  · ipureintro
    intro p hp
    simp only [Finset.mem_insert] at hp
    rcases hp with hp | hp | hp | hp
    · exact .inr (hp ▸ rfl)
    · exact .inr (hp ▸ rfl)
    · exact .inr (hp ▸ rfl)
    · exact .inl hp

end Tile

end Cert.Proof.DilateIdeal

end
-- ==== Proof.Launch.lean ====
/-
  The launch of the kernel whose constants are named, and what `@main` leaves.

  A subcore numbered 13 or more does nothing; with the working tasks that gives every task of the call. `@main` pads the
  signal with minus infinity (a hundred elements before it), copies the scale to sixteen lanes, calls the kernel with a share
  of both for every task and the output cut into blocks, and slices the 201 results out.
-/
module

public import proofs.«01_k».proof.Proof.Tile

@[expose] public section

noncomputable section

namespace Cert.Proof.DilateIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.ValueIdx

variable {F : FTy → Type} [FloatOps F] [Named F]

local notation "𝕄" => MT nD τ sig (HIx 1) (Elt F) ℕ UU ℕ
local notation "aV" => (Memref.whole Cert.KernelIdeal.main_v1_scv : Memref Cert.KernelIdeal.sig Kind.scVector Space.hbm Cert.KernelIdeal.S416 EltTy.f32)
local notation "bV" => (Memref.whole Cert.KernelIdeal.main_v2_scv : Memref Cert.KernelIdeal.sig Kind.scVector Space.hbm Cert.KernelIdeal.S16 EltTy.f32)
local notation "oV" => (Memref.whole Cert.KernelIdeal.main_v3_scv : Memref Cert.KernelIdeal.sig Kind.scVector Space.hbm Cert.KernelIdeal.S208 EltTy.f32)
local notation "pV" => (Memref.whole Cert.KernelIdeal.cc0_scratch0 : Memref Cert.KernelIdeal.sig Kind.scVector Space.vmem Cert.KernelIdeal.S416 EltTy.f32)
local notation "sV" => (Memref.whole Cert.KernelIdeal.cc0_scratch1 : Memref Cert.KernelIdeal.sig Kind.scVector Space.vmem Cert.KernelIdeal.S16 EltTy.f32)
local notation "hV" => (Memref.whole Cert.KernelIdeal.cc0_scratch2 : Memref Cert.KernelIdeal.sig Kind.scVector Space.vmem Cert.KernelIdeal.S208 EltTy.f32)
local notation "rV" => (Memref.whole Cert.KernelIdeal.cc0_scratch3 : Memref Cert.KernelIdeal.sig Kind.scVector Space.vmem Cert.KernelIdeal.S16 EltTy.f32)

/-! ## Every task -/

section Task

variable (A : (d : Dev nD) → Buf (Elt F) (aLoc d)) (B : (d : Dev nD) → Buf (Elt F) (bLoc d)) (C : (d : Dev nD) → Buf (Elt F) (oLoc d))
variable (d : Dev nD) (L : grid0.Coords)

/-- The block of a task numbered 13 or more has no element, so what it holds is anything. -/
theorem oPts_idle (h : ¬ (wL L).val < 13) (f g : Buf (Elt F) (oLoc d)) : (oPts d (wL L) f : sProp 𝕄) = oPts d (wL L) g := by
  refine pointsTo_congr fun y hy => absurd (Finset.mem_filter.mp hy).2 ?_
  have : ((y : S208.Idx) 0).val < 208 := (y 0).isLt
  omega

set_option maxHeartbeats 4000000 in
/-- A task numbered 13 or more does nothing. -/
theorem body_off (h1 : ¬ k0_cond1 L = 1#1) (O : CellTallies nD τ sig (HIx 1)) (W : Waits sig (HIx 1)) :
    iprop(levAts (K (F := F)).L (K (F := F)).lev ∗ emp ∗ tileIn A B C d (wL L)
        ∗ scopedBufs (thr d L) ∗ scopedSems0 (thr d L) ∗ owes (thr d L) O W)
      ⊢ wp frame (wpE (defs₀ (F := F)) Variants.none (thr d L) none) Set.univ
          (cc0__dilate_body L aV (Memref.isWhole_whole _) bV (Memref.isWhole_whole _) oV (Memref.isWhole_whole _)
            pV (Memref.isWhole_whole _) sV (Memref.isWhole_whole _) hV (Memref.isWhole_whole _) rV (Memref.isWhole_whole _)
            cc0_scoped0 cc0_scoped1 cc0_scoped2)
          fun _ => iprop(tileOut A B d (wL L) ∗ scopedBufs (thr d L) ∗ scopedSems0 (thr d L)
            ∗ ∃ W', ⌜∀ p ∈ W', p ∈ W ∨ p.2 = none⌝ ∗ owes (thr d L) O W') := by
  have hw : ¬ (wL L).val < 13 := fun h => h1 ((cond_iff L).mpr h)
  simp only [cc0__dilate_body_eq_skeleton]; unfold cc0__dilate_body_skel
  iintro ⟨-, -, ⟨Ha, Hb, Ho⟩, Hbufs, Hsems, HO⟩
  ihave Ho2 := (Entails.of_eq (oPts_idle d L hw (C d) (outG (F := F) (A d) (B d)))) $$ Ho
  sl_exec
  sl_step
  isplitl [Ha Hb Ho2]
  · isplitl [Ha]; · iexact Ha
    isplitl [Hb]; · iexact Hb
    iexact Ho2
  isplitl [Hbufs]; · iexact Hbufs
  isplitl [Hsems]; · iexact Hsems
  iexists W
  isplitr
  · ipureintro; exact fun p hp => .inl hp
  iexact HO

/-- Any task: its block of the output at the values computed. -/
theorem tile_body (O : CellTallies nD τ sig (HIx 1)) (W : Waits sig (HIx 1)) (hO : ∀ g, O g none = 0) :
    iprop(levAts (K (F := F)).L (K (F := F)).lev ∗ emp ∗ tileIn A B C d (wL L)
        ∗ scopedBufs (thr d L) ∗ scopedSems0 (thr d L) ∗ owes (thr d L) O W)
      ⊢ wp frame (wpE (defs₀ (F := F)) Variants.none (thr d L) none) Set.univ
          (cc0__dilate_body L aV (Memref.isWhole_whole _) bV (Memref.isWhole_whole _) oV (Memref.isWhole_whole _)
            pV (Memref.isWhole_whole _) sV (Memref.isWhole_whole _) hV (Memref.isWhole_whole _) rV (Memref.isWhole_whole _)
            cc0_scoped0 cc0_scoped1 cc0_scoped2)
          fun _ => iprop(tileOut A B d (wL L) ∗ scopedBufs (thr d L) ∗ scopedSems0 (thr d L)
            ∗ ∃ W', ⌜∀ p ∈ W', p ∈ W ∨ p.2 = none⌝ ∗ owes (thr d L) O W') := by
  by_cases h1 : k0_cond1 L = 1#1
  · exact body_on A B C d L h1 O W hO
  · exact body_off A B C d L h1 O W

end Task

/-! ## What the call's processors pass one another -/

section Call

variable (A : (d : Dev nD) → Buf (Elt F) (aLoc d)) (B : (d : Dev nD) → Buf (Elt F) (bLoc d)) (C : (d : Dev nD) → Buf (Elt F) (oLoc d))

abbrev D : Defs nD τ sig (Elt F) (ΛP (F := F)) := Pipeline.defs pcfgs defs₀
abbrev 𝒱 : Variants := Variants.none.lift
abbrev v₀ : 𝒱.V := Sum.inl none

/-- A SparseCore is handed its sixteen tasks' parts and hands them back; a task its own. -/
def P : (K (F := F)).Pay (nD := nD) (Val := Elt F) (Name := ℕ) (U := UU) where
  st := fun q d c => match q with
    | 0 => bigSep Finset.univ fun i : Fin ((K (F := F)).nSub 0) => tileIn A B C d (wid (Fin.cast nCore_zero c) (Fin.cast nSub_zero i))
  dn := fun q d c => match q with
    | 0 => bigSep Finset.univ fun i : Fin ((K (F := F)).nSub 0) => tileOut A B d (wid (Fin.cast nCore_zero c) (Fin.cast nSub_zero i))
  go := fun q d c i => match q with
    | 0 => tileIn A B C d (wid (Fin.cast nCore_zero c) (Fin.cast nSub_zero i))
  td := fun q d c i => match q with
    | 0 => tileOut A B d (wid (Fin.cast nCore_zero c) (Fin.cast nSub_zero i))
  x := fun _ _ => iprop(emp)

instance P_storable : (P (F := F) A B C).IsStorable where
  st q d c := match q with
    | 0 => (inferInstance : BI.Storable (upEmb : UEmb _ 𝕄)
        (bigSep Finset.univ fun i : Fin ((K (F := F)).nSub 0) => tileIn A B C d (wid (Fin.cast nCore_zero c) (Fin.cast nSub_zero i))))
  dn q d c := match q with
    | 0 => (inferInstance : BI.Storable (upEmb : UEmb _ 𝕄)
        (bigSep Finset.univ fun i : Fin ((K (F := F)).nSub 0) => tileOut A B d (wid (Fin.cast nCore_zero c) (Fin.cast nSub_zero i))))
  go q d c i := match q with
    | 0 => (inferInstance : BI.Storable (upEmb : UEmb _ 𝕄) (tileIn A B C d (wid (Fin.cast nCore_zero c) (Fin.cast nSub_zero i))))
  td q d c i := match q with
    | 0 => (inferInstance : BI.Storable (upEmb : UEmb _ 𝕄) (tileOut A B d (wid (Fin.cast nCore_zero c) (Fin.cast nSub_zero i))))

/-- The coordinate of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__dilate_body (coordsV c s)
          aV (Memref.isWhole_whole _) bV (Memref.isWhole_whole _) oV (Memref.isWhole_whole _)
          pV (Memref.isWhole_whole _) sV (Memref.isWhole_whole _) hV (Memref.isWhole_whole _) rV (Memref.isWhole_whole _)
          cc0_scoped0 cc0_scoped1 cc0_scoped2) ⟨⟩ c s := rfl

omit [FloatOps F] [Named F] in
/-- A wait recorded at the kernel's own index may be recorded at the call's. -/
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

set_option maxRecDepth 16384 in
/-- Every task of the call does what the call asks of it. -/
theorem tileObl : (K (F := F)).TileObl (D (F := F)) 𝒱 (P A B C) v₀ 0 := by
  intro d c i O W hO _ _
  simp only [show (P A B C).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact (tile_body A B C d (coordsV ⟨_, hci.1⟩ ⟨_, hci.2⟩) O W hO).trans (wp_mono frame _ _ fun _ => obl_post)

/-- A SparseCore's part is its tasks' parts, on the way in and on the way out. -/
theorem vecSplit : (K (F := F)).VecSplit' (P A B C) 0 := by
  intro d c
  show (bigSep Finset.univ fun i : Fin ((K (F := F)).nSub 0) => tileIn A B C d (wid (Fin.cast nCore_zero c) (Fin.cast nSub_zero i)))
    ⊢ |={Set.univ}=> iprop(
      (bigSep Finset.univ fun i : Fin ((K (F := F)).nSub 0) => tileIn A B C d (wid (Fin.cast nCore_zero c) (Fin.cast nSub_zero i)))
      ∗ ((bigSep Finset.univ fun i : Fin ((K (F := F)).nSub 0) => tileOut A B d (wid (Fin.cast nCore_zero c) (Fin.cast nSub_zero i)))
          -∗ bigSep Finset.univ fun i : Fin ((K (F := F)).nSub 0) => tileOut A B d (wid (Fin.cast nCore_zero c) (Fin.cast nSub_zero i))))
  iintro H; imodintro
  isplitl [H]; · iexact H
  iintro H; iexact H

/-! ## The arrays cut for the tasks -/

/-- The pairs of a SparseCore and a subcore number the thirty-two tasks. -/
def widEquiv : Fin 2 × Fin 16 ≃ Fin 32 where
  toFun x := wid x.1 x.2
  invFun w := (⟨w.val % 2, by omega⟩, ⟨w.val / 2, by omega⟩)
  left_inv x := by
    obtain ⟨c, i⟩ := x
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

omit [FloatOps F] [Named F] in
/-- A family over the thirty-two tasks, by SparseCore and subcore. -/
theorem bigSep_tasks (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i)))
      = bigSep Finset.univ Φ := by
  rw [bigSep_univ_equiv widEquiv Φ, ← Finset.univ_product_univ, SparseCore.bigSep_product]
  rfl

omit [FloatOps F] [Named F] in
/-- The output array is its blocks. -/
theorem oPts_blocks (d : Dev nD) (f : Buf (Elt F) (oLoc d)) :
    (oLoc d ↦{fullShare} f : sProp 𝕄) = bigSep Finset.univ fun w : Fin 32 => oPts d w f := by
  rw [← pointsTo_biUnion Finset.univ (ℓ := oLoc d) (fun w : Fin 32 => oSet w.val)
    fun i _ j _ h => Finset.disjoint_left.mpr fun y hi hj => h (Fin.ext ((Finset.mem_filter.mp hi).2.symm.trans (Finset.mem_filter.mp hj).2))]
  refine congrArg (fun I => (oLoc d ↦[I]{fullShare} f : sProp 𝕄)) (Finset.ext fun y => ?_)
  simp only [Finset.mem_univ, Finset.mem_biUnion, true_and, true_iff]
  have : ((y : S208.Idx) 0).val < 208 := (y 0).isLt
  exact ⟨⟨((y : S208.Idx) 0).val / 16, by omega⟩, Finset.mem_filter.mpr ⟨Finset.mem_univ _, rfl⟩⟩

/-- What the call takes: the padded signal, the scale vector and the output, whole. -/
theorem st0_eq (d : Dev nD) :
    (bigSep Finset.univ fun c : Fin ((K (F := F)).nCore 0) => (P A B C).st 0 d c)
      = iprop((aLoc d ↦{fullShare} A d) ∗ (bLoc d ↦{fullShare} B d) ∗ oLoc d ↦{fullShare} C d) := by
  rw [oPts_blocks, ShareLeaves.pointsTo_leaves Finset.univ (A d) 5 fullShare, ShareLeaves.pointsTo_leaves Finset.univ (B d) 5 fullShare]
  refine (bigSep_tasks (F := F) fun w => tileIn A B C d w).trans ?_
  rw [bigSep_sep', bigSep_sep']
  rfl

/-- What it hands back: the same, the output at the values computed. -/
theorem dn0_eq (d : Dev nD) :
    (bigSep Finset.univ fun c : Fin ((K (F := F)).nCore 0) => (P A B C).dn 0 d c)
      = iprop((aLoc d ↦{fullShare} A d) ∗ (bLoc d ↦{fullShare} B d)
          ∗ oLoc d ↦{fullShare} (outG (F := F) (A d) (B d) : Buf (Elt F) (oLoc d))) := by
  rw [oPts_blocks, ShareLeaves.pointsTo_leaves Finset.univ (A d) 5 fullShare, ShareLeaves.pointsTo_leaves Finset.univ (B d) 5 fullShare]
  refine (bigSep_tasks (F := F) fun w => tileOut A B d w).trans ?_
  rw [bigSep_sep', bigSep_sep']
  rfl

/-! ## The launch's own state -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A B C).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A B C).x q thr) = bigSep Finset.univ fun _ => iprop(emp) from
    bigSep_congr fun _ _ => bigSep_univ_of_subsingleton (0 : Fin 1), bigSep_emp']
  iempintro

end Call

/-! ## @main on the TensorCore -/

section Main

variable (m : (ℓ : Loc nD τ sig) → Buf (Elt F) ℓ) (ρ : Dev nD → PrngReg)

/-- The operations before the call, in order. -/
abbrev opMinusInf : HloOp τ sig (Elt F) := StableHlo.nullary main_cst (constant S_ .f32 0xFF800000#32)
abbrev opFill : HloOp τ sig (Elt F) :=
  StableHlo.unary main_cst main_v0 (broadcastInDim S416 ![] bcast_S_S416 : (⟨S_, .f32⟩ : BufTy).Contents (Elt F) → (⟨S416, .f32⟩ : BufTy).Contents (Elt F))
abbrev opStart : HloOp τ sig (Elt F) := StableHlo.nullary main_c (constantI S_ 32 100#32)
abbrev opPad : HloOp τ sig (Elt F) :=
  StableHlo.binaryIndexed main_v0 main_arg0 ![main_c] ⟨S_, .i32⟩ main_v1
    ((fun x u i => Host.dynamicUpdateSlice x u (fun k => (i k (Shape.Idx.first h_S_)).toInt) updateFits_S416_S201) :
      (⟨S416, .f32⟩ : BufTy).Contents (Elt F) → (⟨S201, .f32⟩ : BufTy).Contents (Elt F) → (Fin 1 → (⟨S_, .i32⟩ : BufTy).Contents (Elt F)) → (⟨S416, .f32⟩ : BufTy).Contents (Elt F))
abbrev opScale : HloOp τ sig (Elt F) :=
  StableHlo.unary main_arg1 main_v2 (broadcastInDim S16 ![] bcast_S_S16 : (⟨S_, .f32⟩ : BufTy).Contents (Elt F) → (⟨S16, .f32⟩ : BufTy).Contents (Elt F))
/-- The one after it. -/
abbrev opCut : HloOp τ sig (Elt F) :=
  StableHlo.unary main_v3 main_v4 ((extractStridedSlice S201 ![0] · slices_S208_S201_0) : (⟨S208, .f32⟩ : BufTy).Contents (Elt F) → (⟨S201, .f32⟩ : BufTy).Contents (Elt F))

/-! Their values. -/

/-- The signal with minus infinity around it: a hundred before, the rest after. -/
def padV (x : S201.Idx → F .f32) : S416.Idx → F .f32 :=
  Host.dynamicUpdateSlice (broadcastInDim S416 ![] bcast_S_S416 (constant (F := F) S_ .f32 0xFF800000#32)) x
    (fun _ => (100#32 : BitVec 32).toInt) updateFits_S416_S201
/-- The scale on sixteen lanes. -/
def sclV (s : S_.Idx → F .f32) : S16.Idx → F .f32 := broadcastInDim S16 ![] bcast_S_S16 s
/-- What @main returns of the signal and the scale. -/
def resV (x : S201.Idx → F .f32) (s : S_.Idx → F .f32) : S201.Idx → F .f32 :=
  extractStridedSlice S201 ![0] (outG (padV x) (sclV s)) slices_S208_S201_0

/-- The TensorCore's nine arrays. -/
abbrev S9 : Finset (DevRef τ sig) :=
  {Proc.devRef .tc main_arg0, Proc.devRef .tc main_arg1, Proc.devRef .tc main_cst, Proc.devRef .tc main_v0, Proc.devRef .tc main_c,
    Proc.devRef .tc main_v1, Proc.devRef .tc main_v2, Proc.devRef .tc main_v3, Proc.devRef .tc main_v4}

omit [FloatOps F] [Named F] in
theorem held_S9 (d : Dev nD) (W : Valuation τ sig (Elt F)) :
    (held (T d) S9 W : sProp 𝕄) = iprop(((SparseCore.T d).loc main_arg0 ↦{fullShare} W (Proc.devRef .tc main_arg0))
      ∗ ((SparseCore.T d).loc main_arg1 ↦{fullShare} W (Proc.devRef .tc main_arg1))
      ∗ ((SparseCore.T d).loc main_cst ↦{fullShare} W (Proc.devRef .tc main_cst))
      ∗ ((SparseCore.T d).loc main_v0 ↦{fullShare} W (Proc.devRef .tc main_v0))
      ∗ ((SparseCore.T d).loc main_c ↦{fullShare} W (Proc.devRef .tc main_c))
      ∗ (aLoc d ↦{fullShare} W (Proc.devRef .tc main_v1))
      ∗ (bLoc d ↦{fullShare} W (Proc.devRef .tc main_v2))
      ∗ (oLoc d ↦{fullShare} W (Proc.devRef .tc main_v3))
      ∗ (SparseCore.T d).loc main_v4 ↦{fullShare} W (Proc.devRef .tc main_v4)) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch's contents, and those after the operations before the call. -/
def V0 (d : Dev nD) : Valuation τ sig (Elt F) := fun b => m (d, b)
def V5 (d : Dev nD) : Valuation τ sig (Elt F) := (opScale (F := F)).result (opPad.result (opStart.result (opFill.result (opMinusInf.result (V0 m d)))))
/-- After the call. -/
def V6 (d : Dev nD) : Valuation τ sig (Elt F) :=
  Function.update (V5 m d) (Proc.devRef .tc main_v3)
    (outG (F := F) (V5 m d (Proc.devRef .tc main_v1)) (V5 m d (Proc.devRef .tc main_v2)))

omit [FloatOps F] [Named F] in
theorem unscoped_held (d : Dev nD) : (unscopedBufs d (fun b => m ((SparseCore.T d).loc b)) : sProp 𝕄) = held (T d) S9 (V0 m d) := by
  rw [held_S9]
  unfold unscopedBufs
  rw [show (Finset.univ.filter fun b : Ref sig .tc => ¬ b.isScoped) = {main_arg0, main_arg1, main_cst, main_v0, main_c, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- The three arrays of the call as the launch hands them to it. -/
abbrev mA (d : Dev nD) : Buf (Elt F) (aLoc d) := V5 m d (Proc.devRef .tc main_v1)
abbrev mB (d : Dev nD) : Buf (Elt F) (bLoc d) := V5 m d (Proc.devRef .tc main_v2)
abbrev mC (d : Dev nD) : Buf (Elt F) (oLoc d) := V5 m d (Proc.devRef .tc main_v3)

/-- @main's arguments at their launch contents and its result at its value. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ (SparseCore.T d).loc main_v4 ↦{fullShare}
        (resV (F := F) (m ((SparseCore.T d).loc main_arg0)) (m ((SparseCore.T d).loc main_arg1)) : Buf (Elt F) ((SparseCore.T d).loc main_v4)))

theorem V5_v1 (d : Dev nD) : V5 m d (Proc.devRef .tc main_v1) = (padV (F := F) (m ((SparseCore.T d).loc main_arg0)) : S416.Idx → F .f32) := by
  show after [opMinusInf, opFill, opStart, opPad, opScale] (V0 m d) (Proc.devRef .tc main_v1) = _
  simp only [after_cons, after_nil]
  rw [unary_result_ne _ _ _ _ _ _ (by decide), binaryIndexed_result, nullary_result_ne _ _ _ _ (by decide), unary_result, nullary_result,
    nullary_result_ne _ _ _ _ (by decide), unary_result_ne _ _ _ _ _ _ (by decide), nullary_result_ne _ _ _ _ (by decide)]
  unfold padV
  refine congrArg (fun f => Host.dynamicUpdateSlice (broadcastInDim S416 ![] bcast_S_S416 (constant (F := F) S_ .f32 0xFF800000#32))
    (m ((SparseCore.T d).loc main_arg0) : S201.Idx → F .f32) f updateFits_S416_S201) (funext fun k => ?_)
  fin_cases k
  exact congrArg (fun t : S_.Idx → BitVec 32 => (t (Shape.Idx.first h_S_)).toInt)
    (nullary_result (Val := Elt F) main_c (constantI S_ 32 100#32) (by decide) (opFill.result (opMinusInf.result (V0 m d))))
theorem V5_v2 (d : Dev nD) : V5 m d (Proc.devRef .tc main_v2) = (sclV (F := F) (m ((SparseCore.T d).loc main_arg1)) : S16.Idx → F .f32) := by
  show after [opMinusInf, opFill, opStart, opPad, opScale] (V0 m d) (Proc.devRef .tc main_v2) = _
  after_results
  rfl

theorem V5_arg0 (d : Dev nD) : V5 m d (Proc.devRef .tc main_arg0) = m ((SparseCore.T d).loc main_arg0) := by
  show after [opMinusInf, opFill, opStart, opPad, opScale] (V0 m d) (Proc.devRef .tc main_arg0) = _
  after_results
  rfl
theorem V5_arg1 (d : Dev nD) : V5 m d (Proc.devRef .tc main_arg1) = m ((SparseCore.T d).loc main_arg1) := by
  show after [opMinusInf, opFill, opStart, opPad, opScale] (V0 m d) (Proc.devRef .tc main_arg1) = _
  after_results
  rfl

/-- The call changes the output alone. -/
theorem V6_ne (d : Dev nD) (b : DevRef τ sig) (h : b ≠ Proc.devRef .tc main_v3) : V6 m d b = V5 m d b := Function.update_of_ne h _ _
theorem V6_v3 (d : Dev nD) : V6 m d (Proc.devRef .tc main_v3) = outG (F := F) (mA m d) (mB m d) := Function.update_self _ _ _

/-- The arguments and the result after the last operation. -/
theorem V7_arg0 (d : Dev nD) : (opCut (F := F)).result (V6 m d) (Proc.devRef .tc main_arg0) = m ((SparseCore.T d).loc main_arg0) := by
  rw [unary_result_ne _ _ _ _ _ _ (by decide), V6_ne m d _ (by decide), V5_arg0]
theorem V7_arg1 (d : Dev nD) : (opCut (F := F)).result (V6 m d) (Proc.devRef .tc main_arg1) = m ((SparseCore.T d).loc main_arg1) := by
  rw [unary_result_ne _ _ _ _ _ _ (by decide), V6_ne m d _ (by decide), V5_arg1]
theorem V7_v4 (d : Dev nD) : (opCut (F := F)).result (V6 m d) (Proc.devRef .tc main_v4)
    = (resV (F := F) (m ((SparseCore.T d).loc main_arg0)) (m ((SparseCore.T d).loc main_arg1)) : S201.Idx → F .f32) := by
  rw [unary_result, V6_v3]
  unfold mA mB
  rw [V5_v1, V5_v2]
  rfl

theorem fin_of_held (d : Dev nD) : (held (T d) S9 ((opCut (F := F)).result (V6 m d)) : sProp 𝕄) ⊢ FIN m d := by
  rw [held_S9, V7_arg0, V7_arg1, V7_v4]
  iintro ⟨H0, H1, -, -, -, -, -, -, H4⟩
  isplitl [H0]; · iexact H0
  isplitl [H1]; · iexact H1
  iexact H4

theorem hMinusInf : (opMinusInf (F := F)).bufs ⊆ S9 := show ({Proc.devRef .tc main_cst} : Finset (DevRef τ sig)) ⊆ S9 by decide
theorem hFill : (opFill (F := F)).bufs ⊆ S9 := show ({Proc.devRef .tc main_cst, Proc.devRef .tc main_v0} : Finset (DevRef τ sig)) ⊆ S9 by decide
theorem hStart : (opStart (F := F)).bufs ⊆ S9 := show ({Proc.devRef .tc main_c} : Finset (DevRef τ sig)) ⊆ S9 by decide
theorem hPad : (opPad (F := F)).bufs ⊆ S9 :=
  show insert (Proc.devRef .tc main_v0) (insert (Proc.devRef .tc main_arg0) (insert (Proc.devRef .tc main_v1)
    (Finset.univ.image fun k : Fin 1 => (Proc.devRef .tc ((![main_c] : Fin 1 → Ref sig .tc) k) : DevRef τ sig)))) ⊆ S9 by decide
theorem hScale : (opScale (F := F)).bufs ⊆ S9 := show ({Proc.devRef .tc main_arg1, Proc.devRef .tc main_v2} : Finset (DevRef τ sig)) ⊆ S9 by decide
theorem hCut : (opCut (F := F)).bufs ⊆ S9 := show ({Proc.devRef .tc main_v3, Proc.devRef .tc main_v4} : Finset (DevRef τ sig)) ⊆ S9 by decide

/-- @main on device `d`'s TensorCore: the operations before the call, the call, the slice. -/
theorem hmain (κ : GSem nD τ sig → ℕ) (d : Dev nD) :
    iprop((K (F := F)).ctx EH (P (mA m) (mB m) (mC m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opMinusInf) (S := S9) hMinusInf) $$ [Hb Hheld]
  · isplitl [Hb] <;> iassumption
  iintro ⟨Hb, Hheld⟩
  rw [wp_ret]; imodintro
  iapply (wp_hlo_within 𝒱 (SparseCore.T d) none Set.univ (op := opFill) (S := S9) hFill) $$ [Hb Hheld]
  · isplitl [Hb] <;> iassumption
  iintro ⟨Hb, Hheld⟩
  rw [wp_ret]; imodintro
  iapply (wp_hlo_within 𝒱 (SparseCore.T d) none Set.univ (op := opStart) (S := S9) hStart) $$ [Hb Hheld]
  · isplitl [Hb] <;> iassumption
  iintro ⟨Hb, Hheld⟩
  rw [wp_ret]; imodintro
  iapply (wp_hlo_within 𝒱 (SparseCore.T d) none Set.univ (op := opPad) (S := S9) hPad) $$ [Hb Hheld]
  · isplitl [Hb] <;> iassumption
  iintro ⟨Hb, Hheld⟩
  rw [wp_ret]; imodintro
  iapply (wp_hlo_within 𝒱 (SparseCore.T d) none Set.univ (op := opScale) (S := S9) hScale) $$ [Hb Hheld]
  · isplitl [Hb] <;> iassumption
  iintro ⟨Hb, Hheld⟩
  rw [wp_ret]; imodintro
  ihave Hh := (Entails.of_eq (held_S9 (F := F) d _)) $$ Hheld
  icases Hh with ⟨H0, H1, Hcst, Hv0, Hc, Ha, Hb2, Ho, H4⟩
  -- the call: the padded signal, the scale vector and the output to the tasks and back
  iapply ((K (F := F)).wp_run (D (F := F)) 𝒱 (EH := EH) (P := P (mA m) (mB m) (mC m)) κ d 0) $$ [Hst Ha Hb2 Ho Hb Hts H0 H1 Hcst Hv0 Hc H4]
  isplitr; · iexact Hctx
  isplitl [Hst]; · iexact Hst
  isplitl [Ha Hb2 Ho]
  · rw [st0_eq]
    isplitl [Ha]; · iexact Ha
    isplitl [Hb2]; · iexact Hb2
    iexact Ho
  iintro ⟨Hst, Hdn⟩
  ihave Hdn' := (Entails.of_eq (dn0_eq (mA m) (mB m) (mC m) d)) $$ Hdn
  icases Hdn' with ⟨Ha, Hb2, Ho⟩
  iapply (wp_hlo_within 𝒱 (SparseCore.T d) none Set.univ (op := opCut) (S := S9) hCut (V := V6 m d)) $$ [Hb H0 H1 Hcst Hv0 Hc Ha Hb2 Ho H4]
  · isplitl [Hb]; · iexact Hb
    rw [held_S9, V6_v3, V6_ne m d (Proc.devRef .tc main_arg0) (by decide), V6_ne m d (Proc.devRef .tc main_arg1) (by decide),
      V6_ne m d (Proc.devRef .tc main_cst) (by decide), V6_ne m d (Proc.devRef .tc main_v0) (by decide), V6_ne m d (Proc.devRef .tc main_c) (by decide),
      V6_ne m d (Proc.devRef .tc main_v1) (by decide), V6_ne m d (Proc.devRef .tc main_v2) (by decide), V6_ne m d (Proc.devRef .tc main_v4) (by decide)]
    isplitl [H0]; · iexact H0
    isplitl [H1]; · iexact H1
    isplitl [Hcst]; · iexact Hcst
    isplitl [Hv0]; · iexact Hv0
    isplitl [Hc]; · iexact Hc
    isplitl [Ha]; · iexact Ha
    isplitl [Hb2]; · iexact Hb2
    isplitl [Ho]; · iexact Ho
    iexact H4
  iintro ⟨Hb, Hheld⟩
  ihave Hfin := (fin_of_held m d) $$ Hheld
  rw [wp_ret]; imodintro; imodintro
  isplitl [Hst]; · iexact Hst
  isplitl [Hfin]; · iexact Hfin
  isplitl [Hb] <;> iassumption

/-- What the final memory holds: both arguments as they were, the result at its value. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v4)
      = (resV (F := F) (m ((SparseCore.T d).loc main_arg0)) (m ((SparseCore.T d).loc main_arg1)) : Buf (Elt F) ((SparseCore.T d).loc main_v4))

set_option maxRecDepth 16384 in
theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (SI_pointsTo_agree (st := s') (ℓ := (SparseCore.T d).loc main_v4) (I := Finset.univ) (q := fullShare)
    (f := (resV (F := F) (m ((SparseCore.T d).loc main_arg0)) (m ((SparseCore.T d).loc main_arg1)) : Buf (Elt F) ((SparseCore.T d).loc main_v4)))) $$ [HSI H4]
  · isplitl [HSI] <;> iassumption
  icases H with %h4
  ipureintro
  exact ⟨funext fun i => h0 i (Finset.mem_univ i), funext fun i => h1 i (Finset.mem_univ i), funext fun i => h4 i (Finset.mem_univ i)⟩

/-! ## The program's run -/

/-- The arguments unchanged, the result at its value, every counter at zero. -/
def QC : PUnit × MemSt nD τ sig (Elt F) → Prop := fun r =>
  (∀ d : Dev nD, r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_v4)
      = (resV (F := F) (m ((SparseCore.T d).loc main_arg0)) (m ((SparseCore.T d).loc main_arg1)) : Buf (Elt F) ((SparseCore.T d).loc main_v4)))
  ∧ r.2.sem = fun _ => 0

/-- Every execution of the program ends with its arguments unchanged, its result at its value and its counters at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (mA m) (mB m) (mC m)) (A := ∅) facts v₀
    (fun q hq => match q with | 0 => nomatch hq)
    (fun q _ => match q with | 0 => tileObl (mA m) (mB m) (mC m))
    (fun q _ => match q with | 0 => SparseCore.Cfg.VecSplit.of_plain (vecSplit (mA m) (mB m) (mC m)))
    m ρ main (fun _ => iprop(emp)) (FIN m) (u₀ (F := F)) (sep_elim_left.trans (hu₀ (mA m) (mB m) (mC m))) (hmain m ρ) (fq m) (hfin m) (QC m)
    (fun _ h hz => ⟨h, hz⟩)

end Main

end Cert.Proof.DilateIdeal

end
-- ==== Proof.Spec.lean ====
/-
  The function both programs compute on the extended reals, and the constants they spell.

  `dilated x s` at `j` is the greatest of `x (j + i - 100) + par s i` over `i < 201`, where `x` outside its 201 places counts
  as minus infinity and `par s i` is the parabola `-(z i)² / (4 s)` at the `i`-th of 201 evenly spaced places from -99 to 100.
-/
module

public import Idealize.ShloMosaic.PureOps.Ideal
public import Idealize.ShloMosaic.Lib.ValueIdxCore

@[expose] public section

noncomputable section

namespace Cert.Proof.Dilation

open Idealize.ShloMosaic Idealize.ShloMosaic.ValueIdx

/-! ## The float constants as extended reals -/

theorem bits_minusInf : Ideal.ofBits .f32 0xFF800000#32 = ⊥ := by simp [Ideal.ofBits, Ideal.ieee]
theorem bits_quarter : Ideal.ofBits .f32 0xBE800000#32 = ((-(1 / 4) : ℝ) : EReal) := by
  simp [Ideal.ofBits, Ideal.ieee, -EReal.coe_mul]; norm_num
theorem bits_99 : Ideal.ofBits .f32 0x42C60000#32 = ((99 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_4 : Ideal.ofBits .f32 0x40800000#32 = ((4 : ℝ) : EReal) := by
  simp [Ideal.ofBits, Ideal.ieee, -EReal.coe_mul]; norm_num
theorem bits_200 : Ideal.ofBits .f32 0x43480000#32 = ((200 : ℝ) : EReal) := by
  simp [Ideal.ofBits, Ideal.ieee, -EReal.coe_mul]; norm_num

/-! ## The function -/

/-- The `i`-th of 201 evenly spaced places from -99 to 100. -/
def place (i : ℕ) : ℝ := 199 / 200 * i - 99

/-- The parabola at that place, of scale `s`. -/
def par (s : EReal) (i : ℕ) : EReal := Ideal.div (-((place i * place i : ℝ) : EReal)) (((4 : ℝ) : EReal) * s)

/-- The signal shifted up by a hundred places, minus infinity where it has no element. -/
def shifted (x : (⟨1, ![201]⟩ : Shape).Idx → EReal) (n : ℕ) : EReal :=
  if h : 100 ≤ n ∧ n < 301 then x (ix1 (n := 201) ⟨n - 100, by omega⟩) else ⊥

/-- The dilation of a signal by the parabola. -/
def dilated (x : (⟨1, ![201]⟩ : Shape).Idx → EReal) (s : EReal) : (⟨1, ![201]⟩ : Shape).Idx → EReal := fun y =>
  (Finset.range 201).sup fun i => shifted x ((y 0).val + i) + par s i

/-- No place is zero: zero falls between the hundredth and the next. -/
theorem place_sq_pos (i : ℕ) : 0 < place i * place i := by
  refine mul_self_pos.mpr fun h => ?_
  have h1 : (199 * i : ℝ) = (19800 : ℝ) := by unfold place at h; linarith
  have h2 : 199 * i = 19800 := by exact_mod_cast h1
  omega

/-- The square of a place by minus a quarter over the scale is the parabola there, whatever the scale: zero and the two
    infinities among them. -/
theorem sq_mul_quarter (s : EReal) (i : ℕ) :
    ((place i * place i : ℝ) : EReal) * Ideal.div ((-(1 / 4) : ℝ) : EReal) s = par s i := by
  have hp := place_sq_pos i
  unfold par
  generalize place i * place i = a at hp ⊢
  have ha : ¬ (0 : EReal) < -((a : ℝ) : EReal) := by
    rw [← EReal.coe_neg, ← EReal.coe_zero, EReal.coe_lt_coe_iff]; linarith
  have hq : ¬ (0 : EReal) < ((-(1 / 4) : ℝ) : EReal) := by
    rw [← EReal.coe_zero, EReal.coe_lt_coe_iff]; norm_num
  induction s with
  | bot =>
    rw [EReal.coe_mul_bot_of_pos (by norm_num : (0 : ℝ) < 4)]
    simp [Ideal.div]
  | top =>
    rw [EReal.coe_mul_top_of_pos (by norm_num : (0 : ℝ) < 4)]
    simp [Ideal.div]
  | coe r =>
    by_cases hr : r = 0
    · subst hr
      simp only [Ideal.div, EReal.coe_zero, mul_zero, if_true, if_neg ha, if_neg hq]
      exact EReal.coe_mul_bot_of_pos hp
    · rw [Ideal.div_coe hr, ← EReal.coe_mul, ← EReal.coe_mul, ← EReal.coe_mul, Ideal.div_coe (mul_ne_zero (by norm_num) hr), ← EReal.coe_neg,
        ← EReal.coe_mul]
      congr 1
      field_simp

end Cert.Proof.Dilation

end
-- ==== Proof.KernelValue.lean ====
/-
  What the kernel leaves, at the extended reals: `resV` is the dilation.

  The fold over 208 table entries is a supremum; the table's entry `k` is the parabola at place `k` for `k < 201` and minus
  infinity after, and the padded signal at `j + k` is the signal shifted by a hundred.
-/
module

public import proofs.«01_k».proof.Proof.Launch
public import proofs.«01_k».proof.Proof.Spec
public import Idealize.ShloMosaic.PureOps.IdealRules
public import Idealize.ShloMosaic.Lib.Pointwise.ShapeOpsCore

@[expose] public section

noncomputable section

namespace Cert.Proof.DilateIdeal

open Cert.KernelIdeal Cert.KernelIdeal.Gen Cert.Proof.Dilation
open Idealize.ShloMosaic Idealize.ShloMosaic.ValueIdx

/-- The named step is 199/200. -/
theorem stepC_ideal : stepC (F := Ideal) = ((199 / 200 : ℝ) : EReal) :=
  IdealRules.named_const.ideal_named_scalar _ _ _ _ rfl

/-- The chunks start at the multiples of sixteen. -/
theorem chunkBits_ideal (c : ℕ) (hc : c < 13) : Ideal.ofBits .f32 (chunkBits c) = ((16 * c : ℝ) : EReal) := by
  interval_cases c <;> simp [chunkBits, Ideal.ofBits, Ideal.ieee, -EReal.coe_mul] <;> norm_num

/-- A lane's number as a signed word is its number. -/
theorem lane_toInt : ∀ r : Fin 16, (BitVec.ofNat 32 r.val).toInt = (r.val : ℤ) := by decide

/-- Chunk `c`, lane `r` of the unmasked table is the parabola at place `16 c + r`. -/
theorem hF_at (s : Vec Ideal S16 .f32) (v : EReal) (hs : ∀ l, s l = v) (c : ℕ) (hc : c < 13) (r : Fin 16) :
    hF (F := Ideal) (chunkBits c) s (ix1 (n := 16) r) = par v (16 * c + r.val) := by
  have hl : laneF (F := Ideal) (chunkBits c) (ix1 (n := 16) r) = (((16 * c + r.val : ℕ) : ℝ) : EReal) := by
    show (((iota .scVector S16 32 [0] iota_S16_d0_w32_scVector (ix1 (n := 16) r)).toInt : ℝ) : EReal) + Ideal.ofBits .f32 (chunkBits c) = _
    rw [iota_single_apply, chunkBits_ideal c hc]
    show (((BitVec.ofNat 32 r.val).toInt : ℝ) : EReal) + _ = _
    rw [lane_toInt, ← EReal.coe_add]
    congr 1
    push_cast
    ring
  have hz : zF (F := Ideal) (chunkBits c) (ix1 (n := 16) r) = ((place (16 * c + r.val) : ℝ) : EReal) := by
    show laneF (F := Ideal) (chunkBits c) (ix1 (n := 16) r) * stepC (F := Ideal) - Ideal.ofBits .f32 0x42C60000#32 = _
    rw [hl, stepC_ideal, bits_99, ← EReal.coe_mul, ← EReal.coe_sub]
    congr 1
    unfold place
    ring
  have hk : k0_pay8 (F := Ideal) s (ix1 (n := 16) r) = Ideal.div ((-(1 / 4) : ℝ) : EReal) v := by
    show Ideal.div (Ideal.ofBits .f32 0xBE800000#32) (shapeCast S16 s shapeCasts_S16_S16 (ix1 (n := 16) r)) = _
    rw [shapeCast_self, hs, bits_quarter]
  show zF (F := Ideal) (chunkBits c) (ix1 (n := 16) r) * zF (F := Ideal) (chunkBits c) (ix1 (n := 16) r) * k0_pay8 (F := Ideal) s (ix1 (n := 16) r) = _
  rw [hz, hk, ← EReal.coe_mul, sq_mul_quarter]

/-- The last chunk's mask keeps the lanes below nine. -/
theorem mask_at : ∀ r : Fin 16, IntOp.cmpi .slt (BitVec.ofNat 32 r.val) 9#32 = if r.val < 9 then 1#1 else 0#1 := by decide

/-- Entry `k` of the table: the parabola at place `k`, or minus infinity past the last. -/
theorem tab_at (s : Vec Ideal S16 .f32) (v : EReal) (hs : ∀ l, s l = v) (k : ℕ) (hk : k < 208) :
    tabAt (hTab (F := Ideal) s) k = if k < 201 then par v k else ⊥ := by
  have e : tabAt (hTab (F := Ideal) s) k = hChunk (F := Ideal) s (k / 16) (lane k) := by
    show hChunk (F := Ideal) s (k % 208 / 16) (lane (k % 208)) = _
    rw [Nat.mod_eq_of_lt hk]
  have hd : 16 * (k / 16) + k % 16 = k := by omega
  have hF' : hF (F := Ideal) (chunkBits (k / 16)) s (lane k) = par v k := by
    refine (hF_at s v hs (k / 16) (by omega) ⟨k % 16, Nat.mod_lt _ (by decide)⟩).trans ?_
    exact congrArg (par v) hd
  rw [e]
  unfold hChunk
  by_cases h12 : k / 16 = 12
  · rw [if_pos h12]
    show Scalar.select (IntOp.cmpi .slt (iota .scVector S16 32 [0] iota_S16_d0_w32_scVector (lane k)) 9#32) (hF (F := Ideal) (chunkBits 12) s (lane k))
      (Ideal.ofBits .f32 0xFF800000#32) = _
    rw [iota_single_apply, bits_minusInf, ← h12, hF']
    rw [show IntOp.cmpi .slt (BitVec.ofNat 32 ((lane k) 0).val) 9#32 = _ from mask_at ⟨k % 16, Nat.mod_lt _ (by decide)⟩]
    by_cases h9 : k < 201
    · rw [if_pos h9, if_pos (show k % 16 < 9 by omega)]; rfl
    · rw [if_neg h9, if_neg (show ¬ k % 16 < 9 by omega)]; rfl
  · rw [if_neg h12, hF', if_pos (by omega)]

/-- The padded signal is the signal shifted by a hundred. -/
theorem pad_at (x : S201.Idx → EReal) (n : ℕ) (hn : n < 416) : padAt (padV (F := Ideal) x) n = shifted x n := by
  unfold padAt padV
  rw [Host.dynamicUpdateSlice_apply]
  have hst : Host.clampedStart S416 S201 updateFits_S416_S201.1 (fun _ => (100#32 : BitVec 32).toInt) 0 = 100 := by decide
  unfold shifted
  by_cases h : 100 ≤ n ∧ n < 301
  · rw [dif_pos h, dif_pos]
    · refine congrArg x (funext fun b => ?_)
      obtain rfl : b = 0 := Subsingleton.elim _ _
      refine Fin.ext ?_
      show n % 416 - Host.clampedStart S416 S201 updateFits_S416_S201.1 (fun _ => (100#32 : BitVec 32).toInt) 0 = n - 100
      rw [hst, Nat.mod_eq_of_lt hn]
    · intro a
      obtain rfl : a = 0 := Subsingleton.elim _ _
      rw [hst]
      show 100 ≤ n % 416 ∧ n % 416 < 100 + 201
      rw [Nat.mod_eq_of_lt hn]; omega
  · rw [dif_neg h, dif_neg]
    · exact bits_minusInf
    · intro hall
      have h0 := hall 0
      rw [hst] at h0
      have h1 : 100 ≤ n % 416 ∧ n % 416 < 100 + 201 := h0
      rw [Nat.mod_eq_of_lt hn] at h1
      exact h ⟨h1.1, by omega⟩

/-- The fold of maxima is a supremum. -/
theorem accN_sup (p : S416.Idx → EReal) (h : S208.Idx → EReal) (off n : ℕ) (l : S16.Idx) :
    accN (F := Ideal) p h off n l
      = (Finset.range n).sup fun k => (show EReal from padAt (F := Ideal) p (off + k + (l 0).val)) + (show EReal from tabAt (F := Ideal) h k) := by
  induction n with
  | zero => exact bits_minusInf
  | succ n ih =>
    rw [Finset.range_add_one, Finset.sup_insert, ← ih, sup_comm]
    rfl

/-- One element of the result is the fold at its block and lane. -/
theorem resV_at (x : S201.Idx → EReal) (s : S_.Idx → EReal) (y : S201.Idx) :
    resV (F := Ideal) x s y
      = accN (F := Ideal) (padV (F := Ideal) x) (hTab (F := Ideal) (sclV (F := Ideal) s)) (16 * ((y 0).val / 16)) 208 (lane (y 0).val) := by
  have hy : (y 0).val < 201 := (y 0).isLt
  have e : resV (F := Ideal) x s y = outG (F := Ideal) (padV (F := Ideal) x) (sclV (F := Ideal) s) (ix1 (n := 208) ⟨(y 0).val, by omega⟩) := by
    unfold resV
    refine extractStridedSlice_apply _ _ _ _ _ fun a => ?_
    obtain rfl : a = 0 := Subsingleton.elim _ _
    show (y 0).val = 0 + (y 0).val
    omega
  rw [e]
  unfold outG
  rfl

/-- One term of that fold: a shifted sample and a weight, or minus infinity past the last place. -/
theorem term_at (x : S201.Idx → EReal) (s : S_.Idx → EReal) (n k : ℕ) (hn : n < 201) (hk : k < 208) :
    (show EReal from padAt (F := Ideal) (padV (F := Ideal) x) (16 * (n / 16) + k + ((lane n) 0).val))
        + (show EReal from tabAt (F := Ideal) (hTab (F := Ideal) (sclV (F := Ideal) s)) k)
      = if k < 201 then shifted x (n + k) + par (s ValueIdx.ix0) k else ⊥ := by
  have hs : ∀ l, sclV (F := Ideal) s l = s ValueIdx.ix0 := fun l => by
    unfold sclV broadcastInDim; exact congrArg s (funext fun a => a.elim0)
  have el : 16 * (n / 16) + k + ((lane n) 0).val = n + k := by
    show 16 * (n / 16) + k + n % 16 = n + k
    omega
  rw [el, pad_at x _ (by omega), tab_at _ _ hs k hk]
  by_cases h : k < 201
  · rw [if_pos h, if_pos h]
  · rw [if_neg h, if_neg h]; exact EReal.add_bot _

/-- The kernel's result is the dilation of its signal by the parabola of its scale. -/
theorem resV_eq (x : S201.Idx → EReal) (s : S_.Idx → EReal) : resV (F := Ideal) x s = dilated x (s ValueIdx.ix0) := by
  funext y
  have hy : (y 0).val < 201 := (y 0).isLt
  rw [resV_at, accN_sup]
  unfold dilated
  refine le_antisymm (Finset.sup_le fun k hk => ?_) (Finset.sup_le fun k hk => ?_)
  · rw [term_at x s _ k hy (Finset.mem_range.mp hk)]
    by_cases h : k < 201
    · rw [if_pos h]; exact Finset.le_sup (f := fun i => shifted x ((y 0).val + i) + par (s ValueIdx.ix0) i) (Finset.mem_range.mpr h)
    · rw [if_neg h]; exact bot_le
  · have hk' := Finset.mem_range.mp hk
    have ht := term_at x s _ k hy (by omega)
    rw [if_pos hk'] at ht
    rw [← ht]
    exact Finset.le_sup (f := fun k => (show EReal from padAt (F := Ideal) (padV (F := Ideal) x) (16 * ((y 0).val / 16) + k + ((lane (y 0).val) 0).val))
        + (show EReal from tabAt (F := Ideal) (hTab (F := Ideal) (sclV (F := Ideal) s)) k)) (Finset.mem_range.mpr (by omega : k < 208))

end Cert.Proof.DilateIdeal

end
-- ==== Proof.RefValue.lean ====
/-
  What the reference leaves, at the extended reals: its result is the dilation.

  Its places are -99 (1 - i/200) + 100 (i/200) with a last 100; its window of the signal is gathered at the clamped word
  `i + j - 100` and replaced by minus infinity where that word is out of range; its result is the greatest of the sums along a
  row.
-/
module

public import proofs.«01_k».proof.Proof.Gen.ReferenceIdeal.Run
public import proofs.«01_k».proof.Proof.Spec
public import Idealize.ShloMosaic.Lib.Pointwise.Reduce
public import Idealize.ShloMosaic.Lib.Pipeline.Value
public import Idealize.ShloMosaic.Lib.IdealHost

@[expose] public section

noncomputable section

namespace Cert.Proof.RefIdeal

open Cert.ReferenceIdeal Cert.ReferenceIdeal.Gen Cert.Proof.Dilation
open Idealize.ShloMosaic Idealize.ShloMosaic.ValueIdx

/-- The rectangle's index of row `j` and column `i`. -/
abbrev at2 (j i : Fin 201) : S201x201.Idx := ValueIdx.ix2 (n0 := 201) (n1 := 201) j i

/-! ## The pieces of the reference's term -/

/-- The word `i + j - 100` at row `j`, column `i`. -/
def idxW : IVec S201x201 32 :=
  subi (addi (broadcastInDim S201x201 ![0, 1] bcast_S1x201_S201x201_0_1 (broadcastInDim S1x201 ![1] bcast_S201_S1x201_1 (iotaInDim S201 32 0)))
      (broadcastInDim S201x201 ![0, 1] bcast_S201x1_S201x201_0_1 (broadcastInDim S201x1 ![0] bcast_S201_S201x1_0 (iotaInDim S201 32 0))))
    (broadcastInDim S201x201 ![] bcast_S_S201x201 (constantI S_ 32 100#32))

/-- That word clamped to the signal's places. -/
def clampW : IVec S201x201 32 :=
  minsi (broadcastInDim S201x201 ![] bcast_S_S201x201 (id (constantI S_ 32 200#32)))
    (maxsi (broadcastInDim S201x201 ![] bcast_S_S201x201 (id (constantI S_ 32 0#32))) idxW)

/-- The clamped word with the signal's length added where negative. -/
def wrapW : IVec S201x201 32 :=
  select (cmpi .slt clampW (broadcastInDim S201x201 ![] bcast_S_S201x201 (constantI S_ 32 0#32)))
    (addi clampW (broadcastInDim S201x201 ![] bcast_S_S201x201 (constantI S_ 32 201#32))) clampW

/-- Whether the word is in range. -/
def inW : IVec S201x201 1 :=
  andi (cmpi .sge idxW (broadcastInDim S201x201 ![] bcast_S_S201x201 (constantI S_ 32 0#32)))
    (cmpi .slt idxW (broadcastInDim S201x201 ![] bcast_S_S201x201 (constantI S_ 32 201#32)))

/-- `i / 200` for the first two hundred places. -/
def fracs : FVec Ideal S200 .f32 :=
  Host.divf (sitofp .f32 (iotaInDim S200 32 0)) (broadcastInDim S200 ![] bcast_S_S200 (constant S_ .f32 0x43480000#32))

/-- The first two hundred places. -/
def firsts : FVec Ideal S200 .f32 :=
  addf (mulf (broadcastInDim S200 ![0] bcast_S1_S200_0 (shapeCast _ (sitofp .f32 (constantI S_ 32 4294967197#32)) shapeCasts_S_S1))
      (subf (broadcastInDim S200 ![] bcast_S_S200 (constant S_ .f32 0x3F800000#32)) fracs))
    (mulf (broadcastInDim S200 ![0] bcast_S1_S200_0 (shapeCast _ (sitofp .f32 (constantI S_ 32 100#32)) shapeCasts_S_S1)) fracs)

/-- All the places. -/
def places : FVec Ideal S201 .f32 :=
  concatenate S201 0 [⟨S200, firsts⟩, ⟨S1, broadcastInDim S1 ![] bcast_S_S1 (sitofp .f32 (constantI S_ 32 100#32))⟩] concatenates_S200_S1_S201_d0

/-- The parabola at the places. -/
def parabola (s : S_.Idx → EReal) : FVec Ideal S201 .f32 :=
  Host.divf (Host.negf (mulf places places))
    (broadcastInDim S201 ![] bcast_S_S201 (mulf (constant (F := Ideal) S_ .f32 0x40800000#32) (s : FVec Ideal S_ .f32)))

/-- The sums the reference takes the greatest of. -/
def sums (x : S201.Idx → EReal) (s : S_.Idx → EReal) : FVec Ideal S201x201 .f32 :=
  addf (select inW (Host.gather gather_S201_S201x201x1_S201x201_n_0_n_n_0_2_1 x (broadcastInDim S201x201x1 ![0, 1] bcast_S201x201_S201x201x1_0_1 wrapW))
      (broadcastInDim S201x201 ![] bcast_S_S201x201 (id (constant S_ .f32 0xFF800000#32))) : FVec Ideal S201x201 .f32)
    (broadcastInDim S201x201 ![0, 1] bcast_S1x201_S201x201_0_1 (broadcastInDim S1x201 ![1] bcast_S201_S1x201_1 (parabola s)))

set_option maxRecDepth 8192 in
/-- The reference's result is the greatest of those sums along each row. -/
theorem res_eq (m : (ℓ : Loc nD τ sig) → Buf (Elt Ideal) ℓ) (c : Dev nD) :
    Cert.ReferenceIdeal.Value.res_out0 m c
      = (Host.reduce (FloatOps.maximumf (F := Ideal) (φ := .f32)) (sums (m ((c.tc : Thread nD τ).loc main_arg0)) (m ((c.tc : Thread nD τ).loc main_arg1)))
          (constant S_ .f32 0xFF800000#32) reducesTo_S201x201_S201_d1 h_S_ : FVec Ideal S201 .f32) := rfl

/-! ## The words -/

/-- A column of the rectangle reads the row vector it was spread from. -/
theorem spread_row {α : Type} (v : S201.Idx → α) (j i : Fin 201) :
    broadcastInDim S201x201 ![0, 1] bcast_S1x201_S201x201_0_1 (broadcastInDim S1x201 ![1] bcast_S201_S1x201_1 v) (at2 j i)
      = v (ValueIdx.ix1 (n := 201) i) := by
  rw [broadcastInDim_apply _ _ _ _ (ValueIdx.ix2 (n0 := 1) (n1 := 201) 0 i)
    (fun a => match a with | ⟨0, _⟩ => rfl | ⟨1, _⟩ => rfl)]
  exact broadcastInDim_apply _ _ _ _ (ValueIdx.ix1 (n := 201) i) (fun a => match a with | ⟨0, _⟩ => rfl)

/-- A row of the rectangle reads the column vector it was spread from. -/
theorem spread_col {α : Type} (v : S201.Idx → α) (j i : Fin 201) :
    broadcastInDim S201x201 ![0, 1] bcast_S201x1_S201x201_0_1 (broadcastInDim S201x1 ![0] bcast_S201_S201x1_0 v) (at2 j i)
      = v (ValueIdx.ix1 (n := 201) j) := by
  rw [broadcastInDim_apply _ _ _ _ (ValueIdx.ix2 (n0 := 201) (n1 := 1) j 0)
    (fun a => match a with | ⟨0, _⟩ => rfl | ⟨1, _⟩ => rfl)]
  exact broadcastInDim_apply _ _ _ _ (ValueIdx.ix1 (n := 201) j) (fun a => match a with | ⟨0, _⟩ => rfl)

/-- The word at row `j`, column `i`. -/
theorem idxW_at (j i : Fin 201) : idxW (at2 j i) = BitVec.ofNat 32 (j.val + i.val) - 100#32 := by
  show IntOp.subi (IntOp.addi (broadcastInDim S201x201 ![0, 1] bcast_S1x201_S201x201_0_1 (broadcastInDim S1x201 ![1] bcast_S201_S1x201_1 (iotaInDim S201 32 0)) (at2 j i))
    (broadcastInDim S201x201 ![0, 1] bcast_S201x1_S201x201_0_1 (broadcastInDim S201x1 ![0] bcast_S201_S201x1_0 (iotaInDim S201 32 0)) (at2 j i))) 100#32 = _
  rw [spread_row, spread_col]
  show BitVec.ofNat 32 i.val + BitVec.ofNat 32 j.val - 100#32 = _
  rw [← BitVec.ofNat_add, Nat.add_comm]

/-- Of every word from -100 to 300: whether it is in range, and where it clamps to. -/
theorem words (n : Fin 401) :
    IntOp.andi (IntOp.cmpi .sge (BitVec.ofNat 32 n.val - 100#32) 0#32) (IntOp.cmpi .slt (BitVec.ofNat 32 n.val - 100#32) 201#32)
        = (if 100 ≤ n.val ∧ n.val < 301 then 1#1 else 0#1)
    ∧ (100 ≤ n.val ∧ n.val < 301 → min (Scalar.select (IntOp.cmpi .slt (IntOp.minsi 200#32 (IntOp.maxsi 0#32 (BitVec.ofNat 32 n.val - 100#32))) 0#32)
        (IntOp.addi (IntOp.minsi 200#32 (IntOp.maxsi 0#32 (BitVec.ofNat 32 n.val - 100#32))) 201#32)
        (IntOp.minsi 200#32 (IntOp.maxsi 0#32 (BitVec.ofNat 32 n.val - 100#32)))).toInt.toNat 200 = n.val - 100) := by
  revert n
  decide +kernel

/-! ## The places -/

/-- A number below 200 as a signed word is the number. -/
theorem small_toInt : ∀ i : Fin 200, (BitVec.ofNat 32 i.val).toInt = (i.val : ℤ) := by decide +kernel

/-- A scalar seen as one element, spread over the first two hundred places. -/
theorem spread_scalar (w : BitVec 32) (y : S200.Idx) :
    broadcastInDim S200 ![0] bcast_S1_S200_0 (shapeCast S1 (sitofp (F := Ideal) .f32 (constantI S_ 32 w)) shapeCasts_S_S1) y = ((w.toInt : ℝ) : EReal) := rfl

theorem fracs_at (i : Fin 200) : fracs (ValueIdx.ix1 (n := 200) i) = (((i.val : ℝ) / 200 : ℝ) : EReal) := by
  show Ideal.div ((((BitVec.ofNat 32 i.val).toInt : ℝ)) : EReal) (Ideal.ofBits .f32 0x43480000#32) = _
  rw [bits_200, small_toInt i, Ideal.div_coe (by norm_num), ← EReal.coe_mul]
  congr 1
  push_cast
  ring

theorem firsts_at (i : Fin 200) : firsts (ValueIdx.ix1 (n := 200) i) = ((place i.val : ℝ) : EReal) := by
  show broadcastInDim S200 ![0] bcast_S1_S200_0 (shapeCast S1 (sitofp (F := Ideal) .f32 (constantI S_ 32 4294967197#32)) shapeCasts_S_S1) (ValueIdx.ix1 (n := 200) i)
      * (Ideal.ofBits .f32 0x3F800000#32 - fracs (ValueIdx.ix1 (n := 200) i))
    + broadcastInDim S200 ![0] bcast_S1_S200_0 (shapeCast S1 (sitofp (F := Ideal) .f32 (constantI S_ 32 100#32)) shapeCasts_S_S1) (ValueIdx.ix1 (n := 200) i)
      * fracs (ValueIdx.ix1 (n := 200) i) = _
  rw [spread_scalar, spread_scalar, fracs_at, bits_one, show (4294967197#32 : BitVec 32).toInt = -99 by decide, show (100#32 : BitVec 32).toInt = 100 by decide,
    ← EReal.coe_sub, ← EReal.coe_mul, ← EReal.coe_mul, ← EReal.coe_add]
  congr 1
  unfold place
  push_cast
  ring

theorem places_at (i : Fin 201) : places (ValueIdx.ix1 (n := 201) i) = ((place i.val : ℝ) : EReal) := by
  by_cases h : i.val < 200
  · refine (concatenate_pair_apply_left (t := S201) (s₁ := S200) (s₂ := S1) 0 firsts _ concatenates_S200_S1_S201_d0 (ValueIdx.ix1 (n := 201) i) rfl (ValueIdx.ix1 (n := 200) ⟨i.val, h⟩) (fun b => ?_)).trans (firsts_at ⟨i.val, h⟩)
    obtain rfl : b = 0 := Subsingleton.elim _ _
    rfl
  · have hi : i.val = 200 := by omega
    refine (concatenate_pair_apply_right (t := S201) (s₁ := S200) (s₂ := S1) 0 firsts (broadcastInDim S1 ![] bcast_S_S1 (sitofp (F := Ideal) .f32 (constantI S_ 32 100#32)))
      concatenates_S200_S1_S201_d0 (ValueIdx.ix1 (n := 201) i) rfl rfl (ValueIdx.ix1 (n := 1) 0) (fun b hb => ?_) ?_).trans ?_
    · exact absurd (Subsingleton.elim _ _) hb
    · show 0 + 200 = i.val
      omega
    · show (((100#32 : BitVec 32).toInt : ℝ) : EReal) = _
      rw [show (100#32 : BitVec 32).toInt = 100 by decide, hi]
      congr 1
      unfold place
      norm_num

theorem parabola_at (s : S_.Idx → EReal) (i : Fin 201) : parabola s (ValueIdx.ix1 (n := 201) i) = par (s ValueIdx.ix0) i.val := by
  show Ideal.div (-(places (ValueIdx.ix1 (n := 201) i) * places (ValueIdx.ix1 (n := 201) i)))
    (broadcastInDim S201 ![] bcast_S_S201 (mulf (constant (F := Ideal) S_ .f32 0x40800000#32) (s : FVec Ideal S_ .f32)) (ValueIdx.ix1 (n := 201) i)) = _
  rw [broadcastInDim_scalar_apply, places_at, ← EReal.coe_mul]
  show Ideal.div _ (Ideal.ofBits .f32 0x40800000#32 * s ValueIdx.ix0) = _
  rw [bits_4]
  rfl

/-! ## The result -/

/-- The sum at row `j`, column `i`. -/
theorem sums_at (x : S201.Idx → EReal) (s : S_.Idx → EReal) (j i : Fin 201) :
    sums x s (at2 j i) = shifted x (j.val + i.val) + par (s ValueIdx.ix0) i.val := by
  obtain ⟨hin, hat⟩ := words ⟨j.val + i.val, by omega⟩
  show Scalar.select (inW (at2 j i))
      (Host.gather (takeDims 201 201 201 gather_S201_S201x201x1_S201x201_n_0_n_n_0_2_1_wf) x
        (broadcastInDim S201x201x1 ![0, 1] bcast_S201x201_S201x201x1_0_1 wrapW) (at2 j i))
      (Ideal.ofBits .f32 0xFF800000#32)
    + broadcastInDim S201x201 ![0, 1] bcast_S1x201_S201x201_0_1 (broadcastInDim S1x201 ![1] bcast_S201_S1x201_1 (parabola s)) (at2 j i) = _
  rw [spread_row, parabola_at]
  congr 1
  have hm : inW (at2 j i) = if 100 ≤ j.val + i.val ∧ j.val + i.val < 301 then 1#1 else 0#1 := by
    refine Eq.trans ?_ hin
    show IntOp.andi (IntOp.cmpi .sge (idxW (at2 j i)) 0#32) (IntOp.cmpi .slt (idxW (at2 j i)) 201#32) = _
    rw [idxW_at]
  rw [hm]
  unfold shifted
  by_cases h : 100 ≤ j.val + i.val ∧ j.val + i.val < 301
  · rw [if_pos h, dif_pos h, select_one, gather_take_apply (by decide)]
    refine congrArg x (congrArg (ValueIdx.ix1 (n := 201)) (Fin.ext ?_))
    have hw : broadcastInDim S201x201x1 ![0, 1] bcast_S201x201_S201x201x1_0_1 wrapW (takeIdx (at2 j i))
        = wrapW (at2 j i) :=
      broadcastInDim_apply _ _ _ _ _ (fun a => match a with | ⟨0, _⟩ => rfl | ⟨1, _⟩ => rfl)
    show min (broadcastInDim S201x201x1 ![0, 1] bcast_S201x201_S201x201x1_0_1 wrapW (takeIdx (at2 j i))).toInt.toNat 200 = _
    rw [hw]
    refine Eq.trans ?_ (hat h)
    show min (Scalar.select (IntOp.cmpi .slt (IntOp.minsi 200#32 (IntOp.maxsi 0#32 (idxW (at2 j i)))) 0#32)
        (IntOp.addi (IntOp.minsi 200#32 (IntOp.maxsi 0#32 (idxW (at2 j i)))) 201#32)
        (IntOp.minsi 200#32 (IntOp.maxsi 0#32 (idxW (at2 j i))))).toInt.toNat 200 = _
    rw [idxW_at]
  · rw [if_neg h, dif_neg h, select_zero, bits_minusInf]

/-- The greatest of the sums along a row is the dilation there. -/
theorem row_max (x : S201.Idx → EReal) (s : S_.Idx → EReal) :
    (Host.reduce (FloatOps.maximumf (F := Ideal) (φ := .f32)) (sums x s) (constant S_ .f32 0xFF800000#32) reducesTo_S201x201_S201_d1 h_S_ : FVec Ideal S201 .f32)
      = dilated x (s ValueIdx.ix0) := by
  funext y
  rw [Ideal.maximumf_eq_max, Host.reduce_eq_fold, Shape.ReducesTo.fold_fiber_r2_a1]
  show (Finset.univ : Finset (Fin 201)).fold max (Ideal.ofBits .f32 0xFF800000#32) (fun k => sums x s (at2 (y 0) k)) = _
  rw [bits_minusInf]
  have hf : (fun k : Fin 201 => (sums x s (at2 (y 0) k) : EReal)) = fun k => shifted x ((y 0).val + k.val) + par (s ValueIdx.ix0) k.val :=
    funext fun k => sums_at x s (y 0) k
  rw [hf]
  show (Finset.univ : Finset (Fin 201)).sup (fun k => shifted x ((y 0).val + k.val) + par (s ValueIdx.ix0) k.val) = _
  unfold dilated
  refine le_antisymm (Finset.sup_le fun k _ => ?_) (Finset.sup_le fun k hk => ?_)
  · exact Finset.le_sup (f := fun i => shifted x ((y 0).val + i) + par (s ValueIdx.ix0) i) (Finset.mem_range.mpr k.isLt)
  · exact Finset.le_sup (f := fun k : Fin 201 => shifted x ((y 0).val + k.val) + par (s ValueIdx.ix0) k.val)
      (b := ⟨k, Finset.mem_range.mp hk⟩) (Finset.mem_univ _)

/-- The reference's result is the dilation of its signal by the parabola of its scale. -/
theorem res_value (m : (ℓ : Loc nD τ sig) → Buf (Elt Ideal) ℓ) (c : Dev nD) :
    Cert.ReferenceIdeal.Value.res_out0 m c
      = (dilated (m ((c.tc : Thread nD τ).loc main_arg0)) ((m ((c.tc : Thread nD τ).loc main_arg1) : S_.Idx → EReal) ValueIdx.ix0) : S201.Idx → EReal) :=
  (res_eq m c).trans (row_max _ _)

end Cert.Proof.RefIdeal

end
-- ==== Proof.lean ====
/-
  The five claims of the dilation kernel: both printings of it and the reference run and end quiescent, naming the step is
  an idealization of its constant, and at the extended reals the kernel and the reference leave one value, the dilation of
  the signal by a parabola.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.LaunchBits
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, ends quiescent and leaves its arguments. -/
theorem frame_p : Cert.quiescent_Kernel := fun m ρ _ =>
  (θ_run Cert.Kernel.defs _ _).mono (fun _ h => ⟨fun c => ⟨(h.1 c).1, (h.1 c).2.1⟩, h.2⟩) (DilateBits.run_main (F := Bits) m ρ)

/-- So does the kernel whose step is named. -/
theorem frame_pi : Cert.quiescent_KernelIdeal := fun m ρ _ =>
  (θ_run Cert.KernelIdeal.defs _ _).mono (fun _ h => ⟨fun c => ⟨(h.1 c).1, (h.1 c).2.1⟩, h.2⟩) (DilateIdeal.run_main (F := Ideal) m ρ)

/-- So does the reference, which has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The table gives the named step the value 199/200. -/
theorem preserves : Cert.preserves_Kernel_KernelIdeal :=
  IdealRules.named_const.statement Cert.KernelIdeal.κ "step" .f32 0x3F7EB852#32 ((199 / 200 : ℝ) : EReal) rfl

/-- From arguments that agree the kernel and the reference both end with the dilation of the signal in their result. -/
theorem algebraic : Cert.algebraic_KernelIdeal_ReferenceIdeal := by
  intro m ρ m' ρ' _ hagree
  refine ⟨fun c => DilateIdeal.resV (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h.1 c).2.2, (h.1 c).1, (h.1 c).2.1⟩) (DilateIdeal.run_main (F := Ideal) m ρ)
  · refine (θ_run Cert.ReferenceIdeal.defs _ _).mono (fun _ h c => ⟨(h c).1.trans ((RefIdeal.res_value m' c).trans ?_), (h c).2⟩)
      (Cert.ReferenceIdeal.Value.run (F := Ideal) m' ρ')
    rw [(hagree c).1, (hagree c).2]
    exact (DilateIdeal.resV_eq _ _).symm

theorem claim : Cert.Claim :=
  ⟨Cert.Kernel.Gen.facts, Cert.KernelIdeal.Gen.facts, Cert.ReferenceIdeal.Gen.facts, frame_p, frame_pi, frame_ri, preserves, algebraic⟩

end Cert.Proof

end
